-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x576x768 : Shape := ⟨3, ![64, 576, 768]⟩
abbrev S64x77x768 : Shape := ⟨3, ![64, 77, 768]⟩
abbrev S1536x256 : Shape := ⟨2, ![1536, 256]⟩
abbrev S256 : Shape := ⟨1, ![256]⟩
abbrev S256x1 : Shape := ⟨2, ![256, 1]⟩
abbrev S1 : Shape := ⟨1, ![1]⟩
abbrev S1x1x768 : Shape := ⟨3, ![1, 1, 768]⟩
abbrev S36864x768 : Shape := ⟨2, ![36864, 768]⟩
abbrev S77x64x768 : Shape := ⟨3, ![77, 64, 768]⟩
abbrev S77x49152 : Shape := ⟨2, ![77, 49152]⟩
abbrev S1x256 : Shape := ⟨2, ![1, 256]⟩
abbrev S1x1 : Shape := ⟨2, ![1, 1]⟩
abbrev S64x1x96 : Shape := ⟨3, ![64, 1, 96]⟩
abbrev S4608x768 : Shape := ⟨2, ![4608, 768]⟩
abbrev S77x6144 : Shape := ⟨2, ![77, 6144]⟩
abbrev S768x256 : Shape := ⟨2, ![768, 256]⟩
abbrev S8x1x96 : Shape := ⟨3, ![8, 1, 96]⟩
abbrev S4608x256 : Shape := ⟨2, ![4608, 256]⟩
abbrev S6144 : Shape := ⟨1, ![6144]⟩
abbrev S1x6144 : Shape := ⟨2, ![1, 6144]⟩
abbrev S1x768 : Shape := ⟨2, ![1, 768]⟩
abbrev S576x256 : Shape := ⟨2, ![576, 256]⟩
abbrev S576x1 : Shape := ⟨2, ![576, 1]⟩
abbrev S576x8 : Shape := ⟨2, ![576, 8]⟩
abbrev S8x576 : Shape := ⟨2, ![8, 576]⟩
abbrev S8x1x576 : Shape := ⟨3, ![8, 1, 576]⟩
abbrev S8x576x1 : Shape := ⟨3, ![8, 576, 1]⟩
abbrev S8x576x576 : Shape := ⟨3, ![8, 576, 576]⟩
abbrev S8x1 : Shape := ⟨2, ![8, 1]⟩
abbrev S8 : Shape := ⟨1, ![8]⟩
abbrev S576x96 : Shape := ⟨2, ![576, 96]⟩
abbrev S96 : Shape := ⟨1, ![96]⟩
abbrev S1x96 : Shape := ⟨2, ![1, 96]⟩
abbrev S1x1x96 : Shape := ⟨3, ![1, 1, 96]⟩
abbrev S97x64x768 : Shape := ⟨3, ![97, 64, 768]⟩
abbrev S96x768 : Shape := ⟨2, ![96, 768]⟩
abbrev S_ : Shape := ⟨0, ![]⟩
abbrev S96x128 : Shape := ⟨2, ![96, 128]⟩
abbrev S36864x128 : Shape := ⟨2, ![36864, 128]⟩
abbrev S96x1x768 : Shape := ⟨3, ![96, 1, 768]⟩
abbrev S64x97x768 : Shape := ⟨3, ![64, 97, 768]⟩
abbrev S64x96 : Shape := ⟨2, ![64, 96]⟩

abbrev nBuf : Table → Nat
  | .hbm => 18
  | .local .tc .vmem => 13
  | .local .scVector .vmem => 3
  | _ => 0

abbrev bufTy : (tb : Table) → Fin (nBuf tb) → BufTy
  | .hbm, ⟨0, _⟩ => ⟨S64x576x768, .f32⟩
  | .hbm, ⟨1, _⟩ => ⟨S64x77x768, .f32⟩
  | .hbm, ⟨2, _⟩ => ⟨S1536x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S1x1x768, .f32⟩
  | .hbm, ⟨7, _⟩ => ⟨S36864x768, .f32⟩
  | .hbm, ⟨8, _⟩ => ⟨S77x64x768, .f32⟩
  | .hbm, ⟨9, _⟩ => ⟨S77x49152, .f32⟩
  | .hbm, ⟨10, _⟩ => ⟨S1x256, .f32⟩
  | .hbm, ⟨11, _⟩ => ⟨S1x1, .f32⟩
  | .hbm, ⟨12, _⟩ => ⟨S64x1x96, .i32⟩
  | .hbm, ⟨13, _⟩ => ⟨S64x1x96, .i32⟩
  | .hbm, ⟨14, _⟩ => ⟨S1x768, .f32⟩
  | .hbm, ⟨15, _⟩ => ⟨S97x64x768, .f32⟩
  | .hbm, ⟨16, _⟩ => ⟨S64x97x768, .f32⟩
  | .hbm, ⟨17, _⟩ => ⟨S64x96, .i32⟩
  | .local .tc .vmem, ⟨0, _⟩ => ⟨S4608x768, .f32⟩
  | .local .tc .vmem, ⟨1, _⟩ => ⟨S4608x768, .f32⟩
  | .local .tc .vmem, ⟨2, _⟩ => ⟨S77x6144, .f32⟩
  | .local .tc .vmem, ⟨3, _⟩ => ⟨S77x6144, .f32⟩
  | .local .tc .vmem, ⟨4, _⟩ => ⟨S768x256, .f32⟩
  | .local .tc .vmem, ⟨5, _⟩ => ⟨S768x256, .f32⟩
  | .local .tc .vmem, ⟨6, _⟩ => ⟨S1x256, .f32⟩
  | .local .tc .vmem, ⟨7, _⟩ => ⟨S256x1, .f32⟩
  | .local .tc .vmem, ⟨8, _⟩ => ⟨S1x1, .f32⟩
  | .local .tc .vmem, ⟨9, _⟩ => ⟨S8x1x96, .i32⟩
  | .local .tc .vmem, ⟨10, _⟩ => ⟨S8x1x96, .i32⟩
  | .local .tc .vmem, ⟨11, _⟩ => ⟨S8x1x96, .i32⟩
  | .local .tc .vmem, ⟨12, _⟩ => ⟨S8x1x96, .i32⟩
  | .local .scVector .vmem, ⟨0, _⟩ => ⟨S96, .i32⟩
  | .local .scVector .vmem, ⟨1, _⟩ => ⟨S96x768, .f32⟩
  | .local .scVector .vmem, ⟨2, _⟩ => ⟨S1x768, .f32⟩
  | _, _ => ⟨S64x576x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v0_scv : Ref sig .scVector := ⟨.hbm, 7, rfl⟩
abbrev main_v5_1_scv : Ref sig .scVector := ⟨.hbm, 13, rfl⟩
abbrev main_v6_scv : Ref sig .scVector := ⟨.hbm, 14, rfl⟩
abbrev main_v7_scv : Ref sig .scVector := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_82 : BitVec 32 := 0#32
  let c31_i32 : BitVec 32 := 31#32
  let v138 : BitVec 32 := Scalar.addi c0_i32_82 c31_i32
  let c1_i32 : BitVec 32 := 1#32
  ⟨c0_i32_82, v138, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4608x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S77x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1x96 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x96 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 16], ![false, false]⟩

@[reducible] def k1_t1_loop : Scf.Loop 32 :=
  let c0_i32_0 : BitVec 32 := 0#32
  let c2_i32_1 : BitVec 32 := 2#32
  let v2 : BitVec 32 := Scalar.addi c0_i32_0 c2_i32_1
  let c1_i32 : BitVec 32 := 1#32
  ⟨c0_i32_0, v2, c1_i32⟩
def k1_off1 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg10 : BitVec 32 := Scf.iv c0_i32_0 c1_i32 k1_t1
  let v5 : BitVec 32 := Scalar.addi v4 arg10
  let c0_i32_4 : BitVec 32 := 0#32
  let c0_i32_49_r1 : BitVec 32 := 0#32
  ![v5.toNat, 0, 0]
def k1_off2 (i : grid1.Coords) (k1_t1 : Fin k1_t1_loop.trips) : Fin 3 → Nat :=
  let c0_i32_49_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg10 : BitVec 32 := Scf.iv c0_i32_0 c1_i32 k1_t1
  let v5 : BitVec 32 := Scalar.addi v4 arg10
  let c0_i32_50_r2 : BitVec 32 := 0#32
  ![0, v5.toNat, 0]
def k1_off3 (i : grid1.Coords) (k1_t1 : Fin k1_t1_loop.trips) : Fin 3 → Nat :=
  let c96_i32_r3 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v4 : BitVec 32 := Scalar.muli v1 c2_i32_3
  let c0_i32_0 : BitVec 32 := 0#32
  let c1_i32 : BitVec 32 := 1#32
  let arg10 : BitVec 32 := Scf.iv c0_i32_0 c1_i32 k1_t1
  let v5 : BitVec 32 := Scalar.addi v4 arg10
  let c0_i32_49_r3 : BitVec 32 := 0#32
  ![96, v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x576x768 : Shape := ⟨3, ![64, 576, 768]⟩
abbrev S64x77x768 : Shape := ⟨3, ![64, 77, 768]⟩
abbrev S1536x256 : Shape := ⟨2, ![1536, 256]⟩
abbrev S256 : Shape := ⟨1, ![256]⟩
abbrev S256x1 : Shape := ⟨2, ![256, 1]⟩
abbrev S1 : Shape := ⟨1, ![1]⟩
abbrev S1x1x768 : Shape := ⟨3, ![1, 1, 768]⟩
abbrev S_ : Shape := ⟨0, ![]⟩
abbrev S64x768 : Shape := ⟨2, ![64, 768]⟩
abbrev S64x1x768 : Shape := ⟨3, ![64, 1, 768]⟩
abbrev S64x576x1536 : Shape := ⟨3, ![64, 576, 1536]⟩
abbrev S64x576x256 : Shape := ⟨3, ![64, 576, 256]⟩
abbrev S1x1x256 : Shape := ⟨3, ![1, 1, 256]⟩
abbrev S64x576x1 : Shape := ⟨3, ![64, 576, 1]⟩
abbrev S1x1x1 : Shape := ⟨3, ![1, 1, 1]⟩
abbrev S64x576 : Shape := ⟨2, ![64, 576]⟩
abbrev S64x96 : Shape := ⟨2, ![64, 96]⟩
abbrev S64x96x1 : Shape := ⟨3, ![64, 96, 1]⟩
abbrev S64x96x768 : Shape := ⟨3, ![64, 96, 768]⟩
abbrev S64x97x768 : Shape := ⟨3, ![64, 97, 768]⟩

abbrev nBuf : Space → Nat
  | .hbm => 63
  | .vmem => 0
  | .smem => 0
  | _ => 0

abbrev bufTy : (tb : Table) → Fin (tcTables nBuf tb) → BufTy
  | .hbm, ⟨0, _⟩ => ⟨S64x576x768, .f32⟩
  | .hbm, ⟨1, _⟩ => ⟨S64x77x768, .f32⟩
  | .hbm, ⟨2, _⟩ => ⟨S1536x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S1x1x768, .f32⟩
  | .hbm, ⟨7, _⟩ => ⟨S_, .f32⟩
  | .hbm, ⟨8, _⟩ => ⟨S64x768, .f32⟩
  | .hbm, ⟨9, _⟩ => ⟨S64x1x768, .f32⟩
  | .hbm, ⟨10, _⟩ => ⟨S_, .f32⟩
  | .hbm, ⟨11, _⟩ => ⟨S64x1x768, .f32⟩
  | .hbm, ⟨12, _⟩ => ⟨S64x1x768, .f32⟩
  | .hbm, ⟨13, _⟩ => ⟨S64x576x768, .f32⟩
  | .hbm, ⟨14, _⟩ => ⟨S64x576x1536, .f32⟩
  | .hbm, ⟨15, _⟩ => ⟨S64x576x256, .f32⟩
  | .hbm, ⟨16, _⟩ => ⟨S1x1x256, .f32⟩
  | .hbm, ⟨17, _⟩ => ⟨S64x576x256, .f32⟩
  | .hbm, ⟨18, _⟩ => ⟨S64x576x256, .f32⟩
  | .hbm, ⟨19, _⟩ => ⟨S_, .f32⟩
  | .hbm, ⟨20, _⟩ => ⟨S64x576x256, .f32⟩
  | .hbm, ⟨21, _⟩ => ⟨S64x576x256, .f32⟩
  | .hbm, ⟨22, _⟩ => ⟨S64x576x1, .f32⟩
  | .hbm, ⟨23, _⟩ => ⟨S1x1x1, .f32⟩
  | .hbm, ⟨24, _⟩ => ⟨S64x576x1, .f32⟩
  | .hbm, ⟨25, _⟩ => ⟨S64x576x1, .f32⟩
  | .hbm, ⟨26, _⟩ => ⟨S64x576x1, .f32⟩
  | .hbm, ⟨27, _⟩ => ⟨S64x576x1, .f32⟩
  | .hbm, ⟨28, _⟩ => ⟨S_, .f32⟩
  | .hbm, ⟨29, _⟩ => ⟨S64x576x1, .f32⟩
  | .hbm, ⟨30, _⟩ => ⟨S64x576x1, .f32⟩
  | .hbm, ⟨31, _⟩ => ⟨S_, .f32⟩
  | .hbm, ⟨32, _⟩ => ⟨S64x576x1, .f32⟩
  | .hbm, ⟨33, _⟩ => ⟨S64x576x1, .f32⟩
  | .hbm, ⟨34, _⟩ => ⟨S64x576, .f32⟩
  | .hbm, ⟨35, _⟩ => ⟨S64x96, .f32⟩
  | .hbm, ⟨36, _⟩ => ⟨S64x96, .i32⟩
  | .hbm, ⟨37, _⟩ => ⟨S64x96, .i32⟩
  | .hbm, ⟨38, _⟩ => ⟨S64x96x1, .i32⟩
  | .hbm, ⟨39, _⟩ => ⟨S_, .i32⟩
  | .hbm, ⟨40, _⟩ => ⟨S64x96x1, .i32⟩
  | .hbm, ⟨41, _⟩ => ⟨S64x96x1, .i1⟩
  | .hbm, ⟨42, _⟩ => ⟨S_, .i32⟩
  | .hbm, ⟨43, _⟩ => ⟨S64x96x1, .i32⟩
  | .hbm, ⟨44, _⟩ => ⟨S64x96x1, .i32⟩
  | .hbm, ⟨45, _⟩ => ⟨S64x96x1, .i32⟩
  | .hbm, ⟨46, _⟩ => ⟨S1, .i32⟩
  | .hbm, ⟨47, _⟩ => ⟨S_, .i32⟩
  | .hbm, ⟨48, _⟩ => ⟨S64x96x1, .i32⟩
  | .hbm, ⟨49, _⟩ => ⟨S64x96x1, .i1⟩
  | .hbm, ⟨50, _⟩ => ⟨S1x1x1, .i32⟩
  | .hbm, ⟨51, _⟩ => ⟨S64x96x1, .i32⟩
  | .hbm, ⟨52, _⟩ => ⟨S64x96x1, .i1⟩
  | .hbm, ⟨53, _⟩ => ⟨S64x96x1, .i1⟩
  | .hbm, ⟨54, _⟩ => ⟨S_, .i1⟩
  | .hbm, ⟨55, _⟩ => ⟨S64x96, .i1⟩
  | .hbm, ⟨56, _⟩ => ⟨S64x96x768, .f32⟩
  | .hbm, ⟨57, _⟩ => ⟨S64x96x768, .i1⟩
  | .hbm, ⟨58, _⟩ => ⟨S_, .f32⟩
  | .hbm, ⟨59, _⟩ => ⟨S64x96x768, .f32⟩
  | .hbm, ⟨60, _⟩ => ⟨S64x96x768, .f32⟩
  | .hbm, ⟨61, _⟩ => ⟨S64x1x768, .f32⟩
  | .hbm, ⟨62, _⟩ => ⟨S64x97x768, .f32⟩
  | _, _ => ⟨S64x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_values : Ref sig .tc := ⟨.hbm, 35, rfl⟩
abbrev main_indices : Ref sig .tc := ⟨.hbm, 36, rfl⟩
abbrev main_v23 : Ref sig .tc := ⟨.hbm, 37, rfl⟩
abbrev main_v24 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩

abbrev nD : Nat := 1
abbrev τ : Topo := Topo.v7x

variable {F : FTy → Type} [FloatOps F]
-- ==== Proof.Tile.lean ====
/-
  One tile's task of the gather kernel, run by the executor: in each of its two trips it fetches a row of row numbers,
  gathers the named rows of the table in six column blocks, and writes them, and the register row below them, to its
  column of the output. What it leaves there is a function of the three operands' contents.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Reshape
public import Idealize.ShloMosaic.Lib.ViewIndex
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

abbrev UH : Type := URounds (GSem nD τ sig) ℕ
abbrev UP : Type := URounds (GSem nD τ sig) Unit
abbrev UU : Type := UH × UP × Counters

local notation "𝕄" => MT nD τ sig (HIx 1) (Elt F) ℕ UU ℕ

/-! ## Where the arrays lie, and how a task addresses them -/

abbrev tabLoc (d : Dev nD) : Loc nD τ sig := (SparseCore.T d).loc main_v0
abbrev numLoc (d : Dev nD) : Loc nD τ sig := (SparseCore.T d).loc main_v5_1
abbrev regLoc (d : Dev nD) : Loc nD τ sig := (SparseCore.T d).loc main_v6
abbrev outLoc (d : Dev nD) : Loc nD τ sig := (SparseCore.T d).loc main_v7

abbrev tabV : Memref Cert.KernelIdeal.sig Kind.scVector Space.hbm Cert.KernelIdeal.S36864x768 EltTy.f32 := Memref.whole Cert.KernelIdeal.main_v0_scv
abbrev numV : Memref Cert.KernelIdeal.sig Kind.scVector Space.hbm Cert.KernelIdeal.S64x1x96 EltTy.i32 := Memref.whole Cert.KernelIdeal.main_v5_1_scv
abbrev regV : Memref Cert.KernelIdeal.sig Kind.scVector Space.hbm Cert.KernelIdeal.S1x768 EltTy.f32 := Memref.whole Cert.KernelIdeal.main_v6_scv
abbrev outV : Memref Cert.KernelIdeal.sig Kind.scVector Space.hbm Cert.KernelIdeal.S97x64x768 EltTy.f32 := Memref.whole Cert.KernelIdeal.main_v7_scv
abbrev lstV : Memref Cert.KernelIdeal.sig Kind.scVector Space.vmem Cert.KernelIdeal.S96 EltTy.i32 := Memref.whole Cert.KernelIdeal.cc1_scratch0
abbrev rowV : Memref Cert.KernelIdeal.sig Kind.scVector Space.vmem Cert.KernelIdeal.S96x768 EltTy.f32 := Memref.whole Cert.KernelIdeal.cc1_scratch1
abbrev rgsV : Memref Cert.KernelIdeal.sig Kind.scVector Space.vmem Cert.KernelIdeal.S1x768 EltTy.f32 := Memref.whole Cert.KernelIdeal.cc1_scratch2

/-- What the call leaves in its output: at `(p, b, j)` the table's row named by number `p` of row `b`, and below the
    ninety-six, the register row. -/
def outOf (tab : S36864x768.Idx → Elt F .f32) (num : S64x1x96.Idx → Elt F .i32) (reg : S1x768.Idx → Elt F .f32) :
    S97x64x768.Idx → Elt F .f32 := fun x =>
  if h : (x 0).val < 96 then
    tab (ix2 (n0 := 36864) (n1 := 768) ⟨(num (ix3 (n0 := 64) (n1 := 1) (n2 := 96) (x 1) 0 ⟨(x 0).val, h⟩)).toNat % 36864, Nat.mod_lt _ (by norm_num)⟩ (x 2))
  else reg (ix2 (n0 := 1) (n1 := 768) 0 (x 2))

section Tile

variable (d : Dev nD) (L : grid1.Coords)

abbrev cV (L : grid1.Coords) : Fin τ.nSC := (L 0).castLE hcore1
abbrev jV (L : grid1.Coords) : Fin τ.nSub := (L 1).castLE hsub1

/-- The row of row numbers a trip fetches, and the two pieces of the output it writes. -/
abbrev numK (L : grid1.Coords) (k : Fin k1_t1_loop.trips) : Memref sig .scVector .hbm S96 .i32 :=
  ((numV).slice (Rect.unit (s := S64x1x96) (k1_off1 L k) S1x1x96.size (k1_off1_inb L k)) (fun _ => rfl)).squeeze S96 squeezes_S1x1x96_S96
abbrev outA (L : grid1.Coords) (k : Fin k1_t1_loop.trips) : Memref sig .scVector .hbm S96x768 .f32 :=
  ((outV).slice (Rect.unit (s := S97x64x768) (k1_off2 L k) S96x1x768.size (k1_off2_inb L k)) (fun _ => rfl)).squeeze S96x768 squeezes_S96x1x768_S96x768
abbrev outB (L : grid1.Coords) (k : Fin k1_t1_loop.trips) : Memref sig .scVector .hbm S1x768 .f32 :=
  ((outV).slice (Rect.unit (s := S97x64x768) (k1_off3 L k) S1x1x768.size (k1_off3_inb L k)) (fun _ => rfl)).squeeze S1x768 squeezes_S1x1x768_S1x768

/-- The sample trip `k` of task `L` works on. -/
abbrev smp (L : grid1.Coords) (k : Fin k1_t1_loop.trips) : Fin 64 :=
  ⟨4 * (L 1).val + 2 * (L 0).val + k.val, by
    have h1 : (L 1).val < 16 := (L 1).isLt
    have h0 : (L 0).val < 2 := (L 0).isLt
    have hk : k.val < 2 := lt_of_lt_of_le k.isLt k1_t1_abs.2.1
    omega⟩

theorem numK_emb (k : Fin k1_t1_loop.trips) (y : S96.Idx) : (numK L k).view.emb y = ix3 (n0 := 64) (n1 := 1) (n2 := 96) (smp L k) 0 (y 0) := by
  show (Rect.unit (s := S64x1x96) (k1_off1 L k) S1x1x96.size (k1_off1_inb L k)).emb (Shape.reshapeEquiv squeezes_S1x1x96_S96.numel_eq y) = _
  rw [Shape.reshapeEquiv_eq_of_vals _ y (ix3 (n0 := 1) (n1 := 1) (n2 := 96) 0 0 (y 0)) _ _ (rowMajor_val3 _ 96 96 rfl rfl) (rowMajor_val1 _) (by simp)]
  funext a
  refine Fin.ext ?_
  refine (congrArg (· + 1 * _) (congrFun (k1_off1_eq L k) a)).trans ?_
  match a with
  | 0 => simp
  | 1 => simp
  | 2 => simp

theorem outA_emb (k : Fin k1_t1_loop.trips) (y : S96x768.Idx) :
    (outA L k).view.emb y = ix3 (n0 := 97) (n1 := 64) (n2 := 768) ⟨(y 0).val, lt_trans (y 0).isLt (by decide)⟩ (smp L k) (y 1) := by
  show (Rect.unit (s := S97x64x768) (k1_off2 L k) S96x1x768.size (k1_off2_inb L k)).emb (Shape.reshapeEquiv squeezes_S96x1x768_S96x768.numel_eq y) = _
  rw [Shape.reshapeEquiv_eq_of_vals _ y (ix3 (n0 := 96) (n1 := 1) (n2 := 768) (y 0) 0 (y 1)) _ _ (rowMajor_val3 _ 768 768 rfl rfl) (rowMajor_val2 _ 768 rfl) (by simp)]
  funext a
  refine Fin.ext ?_
  refine (congrArg (· + 1 * _) (congrFun (k1_off2_eq L k) a)).trans ?_
  match a with
  | 0 => simp
  | 1 => simp
  | 2 => simp

theorem outB_emb (k : Fin k1_t1_loop.trips) (y : S1x768.Idx) :
    (outB L k).view.emb y = ix3 (n0 := 97) (n1 := 64) (n2 := 768) ⟨96, by decide⟩ (smp L k) (y 1) := by
  show (Rect.unit (s := S97x64x768) (k1_off3 L k) S1x1x768.size (k1_off3_inb L k)).emb (Shape.reshapeEquiv squeezes_S1x1x768_S1x768.numel_eq y) = _
  have hy : (y 0).val = 0 := by have := (y 0).isLt; have e : S1x768.size 0 = 1 := rfl; omega
  rw [Shape.reshapeEquiv_eq_of_vals _ y (ix3 (n0 := 1) (n1 := 1) (n2 := 768) 0 0 (y 1)) _ _ (rowMajor_val3 _ 768 768 rfl rfl) (rowMajor_val2 _ 768 rfl) (by simp [hy])]
  funext a
  refine Fin.ext ?_
  refine (congrArg (· + 1 * _) (congrFun (k1_off3_eq L k) a)).trans ?_
  match a with
  | 0 => simp
  | 1 => simp
  | 2 => simp

/-- The ninety-six rows a trip gathers. -/
def rowsOf (tab : S36864x768.Idx → Elt F .f32) (num : S64x1x96.Idx → Elt F .i32) (b : Fin 64) : S96x768.Idx → Elt F .f32 := fun y =>
  tab (ix2 (n0 := 36864) (n1 := 768) ⟨(num (ix3 (n0 := 64) (n1 := 1) (n2 := 96) b 0 (y 0))).toNat % 36864, Nat.mod_lt _ (by norm_num)⟩ (y 1))

theorem outOf_A (tab : S36864x768.Idx → Elt F .f32) (num : S64x1x96.Idx → Elt F .i32) (reg : S1x768.Idx → Elt F .f32) (k : Fin k1_t1_loop.trips)
    (y : S96x768.Idx) : outOf tab num reg ((outA L k).view.emb y) = rowsOf tab num (smp L k) y := by
  rw [outA_emb]; exact dif_pos (show (y 0).val < 96 from (y 0).isLt)

theorem outOf_B (tab : S36864x768.Idx → Elt F .f32) (num : S64x1x96.Idx → Elt F .i32) (reg : S1x768.Idx → Elt F .f32) (k : Fin k1_t1_loop.trips)
    (y : S1x768.Idx) : outOf tab num reg ((outB L k).view.emb y) = reg y := by
  rw [outB_emb]
  refine (dif_neg (show ¬ (96 : ℕ) < 96 by decide)).trans (congrArg reg ?_)
  funext a
  match a with
  | 0 => exact Subsingleton.elim (α := Fin 1) _ _
  | 1 => rfl

/-- One column block's gather, read where it lands. -/
theorem block_apply (tab : S36864x768.Idx → Elt F .f32) (num : S64x1x96.Idx → Elt F .i32) (b : Fin 64) (o : ℕ)
    (inb : ∀ a, (![0, o] : Fin 2 → ℕ) a + S36864x128.size a ≤ S36864x768.size a) (inb' : ∀ a, (![0, o] : Fin 2 → ℕ) a + S96x128.size a ≤ S96x768.size a)
    (lst : S96.Idx → Elt F .i32) (hl : ∀ y, lst y = num (ix3 (n0 := 64) (n1 := 1) (n2 := 96) b 0 (y 0)))
    (hn : S96.numel = S96x128.size gathers_S36864x128_S96x128.axis')
    (hin : ∀ x, (lst x).toNat < S36864x128.size gathers_S36864x128_S96x128.axis) (hsl) (x : S96x128.Idx) :
    SparseCore.gatherPayload gathers_S36864x128_S96x128
      (View.read (Elt F) ((tabV).slice (Rect.unit (s := S36864x768) ![0, o] S36864x128.size inb) hsl).view tab)
      (SparseCore.rows lst hn hin) x
      = rowsOf tab num b ((Rect.unit (s := S96x768) ![0, o] S96x128.size inb').emb x) := by
  unfold SparseCore.gatherPayload rowsOf
  rw [View.read_apply]
  refine (cast_eq _ _).trans (congrArg tab ?_)
  show (Rect.unit (s := S36864x768) ![0, o] S36864x128.size inb).emb _ = _
  funext a
  refine Fin.ext ?_
  match a with
  | 0 =>
    show 0 + 1 * (Shape.Gathers.idx gathers_S36864x128_S96x128 (SparseCore.rows lst hn hin) x gathers_S36864x128_S96x128.axis).val = _
    rw [Shape.Gathers.idx_axis]
    have hx := hin (S96.rowMajor.symm ((x gathers_S36864x128_S96x128.axis').cast hn.symm))
    have e : S96.rowMajor.symm ((x gathers_S36864x128_S96x128.axis').cast hn.symm) = ix1 (n0 := 96) (x 0) :=
      (Equiv.symm_apply_eq _).2 (Fin.ext (rowMajor_val1 (d := ![96]) (ix1 (n0 := 96) (x 0))).symm)
    rw [e, hl] at hx
    unfold SparseCore.rows
    show 0 + 1 * (lst _).toNat = _
    rw [e, hl]
    show _ = (num (ix3 (n0 := 64) (n1 := 1) (n2 := 96) b 0 ⟨0 + 1 * (x 0).val, _⟩)).toNat % 36864
    simp only [Nat.zero_add, Nat.one_mul]
    exact (Nat.mod_eq_of_lt hx).symm
  | 1 =>
    show o + 1 * (Shape.Gathers.idx gathers_S36864x128_S96x128 (SparseCore.rows lst hn hin) x 1).val = _
    rw [Shape.Gathers.idx_of_ne _ _ _ _ (by decide)]; rfl

variable [FloatOps F]
variable (tab : S36864x768.Idx → Elt F .f32) (num : S64x1x96.Idx → Elt F .i32) (reg : S1x768.Idx → Elt F .f32)

/-- What a task holds around trip `k`, the trip's two pieces of the output at `f`. -/
abbrev around (qt qn : PosShare TreeShare) (O : CellTallies nD τ sig (HIx 1)) (W : Waits sig (HIx 1)) (k : Fin k1_t1_loop.trips)
    (f : S97x64x768.Idx → Elt F .f32) : sProp 𝕄 :=
  iprop(Transfers.MayWaits (V d (cV L) (jV L)) (default : HIx 1) O
    ∗ ((tabV).view.loc (V d (cV L) (jV L)) ↦{qt} tab)
    ∗ ((numV).view.loc (V d (cV L) (jV L)) ↦{qn} num)
    ∗ ((rgsV).view.loc (V d (cV L) (jV L)) ↦{fullShare} reg)
    ∗ (∃ f, (lstV).view.loc (V d (cV L) (jV L)) ↦{fullShare} f)
    ∗ (∃ f, (rowV).view.loc (V d (cV L) (jV L)) ↦{fullShare} f)
    ∗ ((outA L k).view.loc (V d (cV L) (jV L)) ↦[(outA L k).view.set]{fullShare} f)
    ∗ ((outB L k).view.loc (V d (cV L) (jV L)) ↦[(outB L k).view.set]{fullShare} f)
    ∗ semVal (V d (cV L) (jV L), SemLoc.dma cc1_scratch3.sem) 0
    ∗ semVal (V d (cV L) (jV L), SemLoc.dma cc1_scoped1.sem) 0
    ∗ semVal (V d (cV L) (jV L), SemLoc.dma cc1_scoped2.sem) 0
    ∗ semVal (V d (cV L) (jV L), SemLoc.dma cc1_scoped3.sem) 0
    ∗ ∃ W', ⌜∀ p ∈ W', p ∈ W ∨ p.2 = none⌝ ∗ owes (V d (cV L) (jV L)) O W')

set_option maxHeartbeats 4000000 in
theorem trip (qt qn : PosShare TreeShare) (hnum : ∀ j, (num j : BitVec 32).toNat < 36864) (O : CellTallies nD τ sig (HIx 1)) (W : Waits sig (HIx 1))
    (k : Fin k1_t1_loop.trips) (acc : BitVec 32) (v1 : BitVec 32) (f₀ : S97x64x768.Idx → Elt F .f32) :
    around d L tab num reg qt qn O W k f₀
      ⊢ wp frame (wpE (defs₀ (F := F)) 𝒱₀ (V d (cV L) (jV L)) none) Set.univ
          (k1_t1_body L tabV (Memref.isWhole_whole _) numV (Memref.isWhole_whole _) regV (Memref.isWhole_whole _) outV (Memref.isWhole_whole _)
            lstV (Memref.isWhole_whole _) rowV (Memref.isWhole_whole _) rgsV (Memref.isWhole_whole _) cc1_scratch3
            cc1_scoped0 cc1_scoped1 cc1_scoped2 cc1_scoped3 v1 k acc)
          fun _ => around d L tab num reg qt qn O W k (outOf tab num reg) := by
  unfold k1_t1_body
  simp only [k1_part1_eq_skeleton, k1_part2_eq_skeleton]
  unfold k1_part1_skel k1_part2_skel
  iintro ⟨#Hmw, Ht, Hn, Hg, ⟨%fl, Hl⟩, ⟨%fr, Hr⟩, HA, HB, Hs0, Hs1, Hs2, Hs3, %W', %hW', HO⟩
  have hin : ∀ f x, ((lstV).view.read (Elt F) (View.write (Elt F) (lstV).view f ((numK L k).view.read (Elt F) num) Finset.univ) x).toNat
      < S36864x128.size gathers_S36864x128_S96x128.axis := by
    intro f x
    rw [View.write_whole_univ]
    simp only [Memref.view_whole, View.read_whole]
    rw [show ∀ j, (numK L k).view.read (Elt F) num j = num ((numK L k).view.emb j) from fun j => (View.read_apply _ _).trans (cast_eq _ _)]
    exact hnum _
  sl_exec
  have hA : ∀ i ∈ (outA L k).view.set, (outA L k).view.writes (Elt F) f₀ [⟨Rect.whole S96x768, trip.sl.dma0_1 d L tab num k fl fr hin⟩] i = outOf tab num reg i := by
    intro i hi
    obtain ⟨y, rfl⟩ := View.exists_emb_of_mem_set _ hi
    refine View.eq_of_read_eq ?_
    rw [View.read_writes_apply_of_pieces (outA L k).view f₀ (rowsOf tab num (smp L k)) _ ?_ y ⟨_, List.mem_singleton_self _, ?_⟩]
    · rw [View.read_apply, outOf_A]; exact (cast_eq _ _).symm
    · intro p hp x
      obtain rfl := List.mem_singleton.mp hp
      change trip.sl.dma0_1 d L tab num k fl fr hin x = _
      have hx : (Rect.whole S96x768).emb x = x := Rect.emb_whole_apply _ x
      refine Eq.trans ?_ (congrArg (rowsOf tab num (smp L k)) hx.symm)
      unfold trip.sl.dma0_1
      rw [ReadAs.apply_same]
      refine View.read_writes_apply_of_pieces (rowV).view fr (rowsOf tab num (smp L k)) _ ?_ x ?_
      · have hl : ∀ y, (lstV).view.read (Elt F) (View.write (Elt F) (lstV).view fl (trip.sl.dma0 L num k) Finset.univ) y
            = num (ix3 (n0 := 64) (n1 := 1) (n2 := 96) (smp L k) 0 (y 0)) := fun y => by
          rw [View.write_whole_univ]
          simp only [Memref.view_whole, View.read_whole]
          unfold trip.sl.dma0
          rw [ReadAs.apply_same]
          exact ((View.read_apply _ _).trans (cast_eq _ _)).trans (congrArg num (numK_emb L k y))
        intro q hq z
        simp only [List.mem_cons, List.not_mem_nil, or_false] at hq
        rcases hq with rfl | rfl | rfl | rfl | rfl | rfl
        · change trip.sl.gather6 d L tab num k fl hin z = rowsOf tab num (smp L k) ((Rect.unit (s := S96x768) ![0, 640] S96x128.size inb_S96x768_S96x128_0_640).emb z)
          unfold trip.sl.gather6
          exact block_apply tab num (smp L k) 640 _ _ _ hl _ _ _ z
        · change trip.sl.gather5 d L tab num k fl hin z = rowsOf tab num (smp L k) ((Rect.unit (s := S96x768) ![0, 512] S96x128.size inb_S96x768_S96x128_0_512).emb z)
          unfold trip.sl.gather5
          exact block_apply tab num (smp L k) 512 _ _ _ hl _ _ _ z
        · change trip.sl.gather4 d L tab num k fl hin z = rowsOf tab num (smp L k) ((Rect.unit (s := S96x768) ![0, 384] S96x128.size inb_S96x768_S96x128_0_384).emb z)
          unfold trip.sl.gather4
          exact block_apply tab num (smp L k) 384 _ _ _ hl _ _ _ z
        · change trip.sl.gather3 d L tab num k fl hin z = rowsOf tab num (smp L k) ((Rect.unit (s := S96x768) ![0, 256] S96x128.size inb_S96x768_S96x128_0_256).emb z)
          unfold trip.sl.gather3
          exact block_apply tab num (smp L k) 256 _ _ _ hl _ _ _ z
        · change trip.sl.gather2 d L tab num k fl hin z = rowsOf tab num (smp L k) ((Rect.unit (s := S96x768) ![0, 128] S96x128.size inb_S96x768_S96x128_0_128).emb z)
          unfold trip.sl.gather2
          exact block_apply tab num (smp L k) 128 _ _ _ hl _ _ _ z
        · change trip.sl.gather1 d L tab num k fl hin z = rowsOf tab num (smp L k) ((Rect.unit (s := S96x768) ![0, 0] S96x128.size inb_S96x768_S96x128_0_0).emb z)
          unfold trip.sl.gather1
          exact block_apply tab num (smp L k) 0 _ _ _ hl _ _ _ z
      · have hx1 : (x 1).val < 768 := (x 1).isLt
        have hx0 : (x 0).val < 96 := (x 0).isLt
        have hm : ∀ (o : ℕ) (inb : ∀ a, (![0, o] : Fin 2 → ℕ) a + S96x128.size a ≤ S96x768.size a), o ≤ (x 1).val → (x 1).val < o + 128 →
            x ∈ (Rect.unit (s := S96x768) ![0, o] S96x128.size inb).set := fun o inb h1 h2 => by
          rw [Rect.mem_set_unit]
          intro a
          match a with
          | 0 => exact ⟨Nat.zero_le _, by show _ < 0 + 96; omega⟩
          | 1 => exact ⟨h1, h2⟩
        by_cases h5 : 640 ≤ (x 1).val
        · exact ⟨_, .head _, hm 640 inb_S96x768_S96x128_0_640 h5 (by omega)⟩
        by_cases h4 : 512 ≤ (x 1).val
        · exact ⟨_, .tail _ (.head _), hm 512 inb_S96x768_S96x128_0_512 h4 (by omega)⟩
        by_cases h3 : 384 ≤ (x 1).val
        · exact ⟨_, .tail _ (.tail _ (.head _)), hm 384 inb_S96x768_S96x128_0_384 h3 (by omega)⟩
        by_cases h2 : 256 ≤ (x 1).val
        · exact ⟨_, .tail _ (.tail _ (.tail _ (.head _))), hm 256 inb_S96x768_S96x128_0_256 h2 (by omega)⟩
        by_cases h1 : 128 ≤ (x 1).val
        · exact ⟨_, .tail _ (.tail _ (.tail _ (.tail _ (.head _)))), hm 128 inb_S96x768_S96x128_0_128 h1 (by omega)⟩
        · exact ⟨_, .tail _ (.tail _ (.tail _ (.tail _ (.tail _ (.head _))))), hm 0 inb_S96x768_S96x128_0_0 (Nat.zero_le _) (by omega)⟩
    · rw [Rect.set_whole]; exact Finset.mem_univ _
  have hB : ∀ i ∈ (outB L k).view.set, (outB L k).view.writes (Elt F) f₀ [⟨Rect.whole S1x768, trip.sl.dma0_2 reg⟩] i = outOf tab num reg i := by
    intro i hi
    obtain ⟨y, rfl⟩ := View.exists_emb_of_mem_set _ hi
    refine View.eq_of_read_eq ?_
    rw [View.read_writes_apply_of_pieces (outB L k).view f₀ reg _ ?_ y ⟨_, List.mem_singleton_self _, ?_⟩]
    · rw [View.read_apply, outOf_B]; exact (cast_eq _ _).symm
    · intro p hp x
      obtain rfl := List.mem_singleton.mp hp
      change trip.sl.dma0_2 reg x = _
      have hx : (Rect.whole S1x768).emb x = x := Rect.emb_whole_apply _ x
      refine Eq.trans ?_ (congrArg reg hx.symm)
      unfold trip.sl.dma0_2
      rw [ReadAs.apply_same]
      simp only [Memref.view_whole, View.read_whole]
    · rw [Rect.set_whole]; exact Finset.mem_univ _
  sl_step
  isplitr; · iexact Hmw
  isplitl [Ht]; · iexact Ht
  isplitl [Hn]; · iexact Hn
  isplitl [Hg]; · iexact Hg
  isplitl [Hl]; · iexists _; iexact Hl
  isplitl [Hr]; · iexists _; iexact Hr
  isplitl [HA]; · iapply (Entails.of_eq (pointsTo_congr hA)); iexact HA
  isplitl [HB]; · iapply (Entails.of_eq (pointsTo_congr hB)); iexact HB
  isplitl [Hs0]; · iexact Hs0
  isplitl [Hs1]; · iexact Hs1
  isplitl [Hs2]; · iexact Hs2
  isplitl [Hs3]; · iexact Hs3
  iexists _; isplitr
  swap; · iexact HO
  ipureintro; intro p hp
  repeat (rcases Finset.mem_insert.mp hp with hp | hp; · exact .inr (hp ▸ rfl))
  exact hW' p hp

end Tile

end Cert.Proof.Gather

end
-- ==== Proof.Task.lean ====
/-
  A tile's whole task: the register row fetched, then the two trips, each run by the lemma for a trip.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Reshape
public import Idealize.ShloMosaic.Lib.ViewIndex
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Task

variable (d : Dev nD) (L : grid1.Coords)
variable [FloatOps F]
variable (tab : S36864x768.Idx → Elt F .f32) (num : S64x1x96.Idx → Elt F .i32) (reg : S1x768.Idx → Elt F .f32)

abbrev cGcell : GSem nD τ sig := (V d (cV L) (jV L), .dma cc1_scratch3.sem)
abbrev c0cell : GSem nD τ sig := (V d (cV L) (jV L), .dma cc1_scoped0.sem)
abbrev c1cell : GSem nD τ sig := (V d (cV L) (jV L), .dma cc1_scoped1.sem)
abbrev c2cell : GSem nD τ sig := (V d (cV L) (jV L), .dma cc1_scoped2.sem)
abbrev c3cell : GSem nD τ sig := (V d (cV L) (jV L), .dma cc1_scoped3.sem)

omit [FloatOps F] in
/-- The five transfer counters are among the subcore's own. -/
theorem ownSems0_V :
    (ownSems0 (V d (cV L) (jV L)) : sProp 𝕄)
      = iprop(semVal (cGcell d L) 0 ∗ semVal (c0cell d L) 0 ∗ semVal (c1cell d L) 0 ∗ semVal (c2cell d L) 0 ∗ semVal (c3cell d L) 0
          ∗ bigSep ((((((ownCells (V d (cV L) (jV L))).erase (cGcell d L)).erase (c0cell d L)).erase (c1cell d L)).erase (c2cell d L)).erase (c3cell d L))
              fun g => semVal g 0) := by
  have hne : ∀ a b : DmaSem sig, a ≠ b → (((V d (cV L) (jV L)), SemLoc.dma a) : GSem nD τ sig) ≠ (V d (cV L) (jV L), SemLoc.dma b) :=
    fun a b h e => h (SemLoc.dma.inj (congrArg Prod.snd e))
  have hm : ∀ a : DmaSem sig, (SemLoc.dma a : SemLoc sig).isScoped .scVector = true → (((V d (cV L) (jV L)), SemLoc.dma a) : GSem nD τ sig) ∈ ownCells (V d (cV L) (jV L)) :=
    fun a h => mem_ownCells.mpr ⟨rfl, h⟩
  unfold SparseCore.Cfg.ownSems0
  rw [SparseCore.bigSep_erase' (hm cc1_scratch3.sem (by decide)),
    SparseCore.bigSep_erase' (Finset.mem_erase.mpr ⟨hne _ _ (by decide), hm cc1_scoped0.sem (by decide)⟩),
    SparseCore.bigSep_erase' (Finset.mem_erase.mpr ⟨hne _ _ (by decide), Finset.mem_erase.mpr ⟨hne _ _ (by decide), hm cc1_scoped1.sem (by decide)⟩⟩),
    SparseCore.bigSep_erase' (Finset.mem_erase.mpr ⟨hne _ _ (by decide), Finset.mem_erase.mpr ⟨hne _ _ (by decide), Finset.mem_erase.mpr ⟨hne _ _ (by decide),
      hm cc1_scoped2.sem (by decide)⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc1_scoped3.sem (by decide)⟩⟩⟩⟩)]

omit [FloatOps F] in
/-- The three scratch buffers are among the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have hne : ∀ a b : Ref sig .scVector, a ≠ b → (Proc.scVector (cV L) (jV L)).devRef a ≠ (Proc.scVector (cV L) (jV L)).devRef b :=
    fun a b h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨hne cc1_scratch1 cc1_scratch0 (by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨hne cc1_scratch2 cc1_scratch1 (by decide), Finset.mem_erase.mpr ⟨hne cc1_scratch2 cc1_scratch0 (by decide),
      SparseCore.Cfg.mem_ownRefs_of_owner (p := Proc.scVector (cV L) (jV L)) (b := (Proc.scVector (cV L) (jV L)).devRef cc1_scratch2) rfl⟩⟩)]

abbrev k₀ : Fin k1_t1_loop.trips := ⟨0, by decide⟩
abbrev k₁ : Fin k1_t1_loop.trips := ⟨1, by decide⟩

/-- What task `L` of the call is handed and hands back: read shares of the three operands and its two trips' pieces of
    the output, these at `f`. -/
abbrev task (qt qn qr : PosShare TreeShare) (f : S97x64x768.Idx → Elt F .f32) : sProp 𝕄 :=
  iprop(((tabV).view.loc (V d (cV L) (jV L)) ↦{qt} tab)
    ∗ ((numV).view.loc (V d (cV L) (jV L)) ↦{qn} num)
    ∗ ((regV).view.loc (V d (cV L) (jV L)) ↦{qr} reg)
    ∗ (((outA L k₀).view.loc (V d (cV L) (jV L)) ↦[(outA L k₀).view.set]{fullShare} f)
      ∗ ((outB L k₀).view.loc (V d (cV L) (jV L)) ↦[(outB L k₀).view.set]{fullShare} f))
    ∗ (((outA L k₁).view.loc (V d (cV L) (jV L)) ↦[(outA L k₁).view.set]{fullShare} f)
      ∗ ((outB L k₁).view.loc (V d (cV L) (jV L)) ↦[(outB L k₁).view.set]{fullShare} f)))

/-- The loop's invariant: the pieces of the trips done at the final contents, the others as they were. -/
def inv (qt qn : PosShare TreeShare) (O : CellTallies nD τ sig (HIx 1)) (W : Waits sig (HIx 1)) (f₀ : S97x64x768.Idx → Elt F .f32)
    (n : ℕ) (_ : BitVec 32) : sProp 𝕄 :=
  iprop(Transfers.MayWaits (V d (cV L) (jV L)) (default : HIx 1) O
    ∗ ((tabV).view.loc (V d (cV L) (jV L)) ↦{qt} tab)
    ∗ ((numV).view.loc (V d (cV L) (jV L)) ↦{qn} num)
    ∗ ((rgsV).view.loc (V d (cV L) (jV L)) ↦{fullShare} reg)
    ∗ (∃ f, (lstV).view.loc (V d (cV L) (jV L)) ↦{fullShare} f)
    ∗ (∃ f, (rowV).view.loc (V d (cV L) (jV L)) ↦{fullShare} f)
    ∗ (((outA L k₀).view.loc (V d (cV L) (jV L)) ↦[(outA L k₀).view.set]{fullShare} (if 0 < n then outOf tab num reg else f₀))
      ∗ ((outB L k₀).view.loc (V d (cV L) (jV L)) ↦[(outB L k₀).view.set]{fullShare} (if 0 < n then outOf tab num reg else f₀)))
    ∗ (((outA L k₁).view.loc (V d (cV L) (jV L)) ↦[(outA L k₁).view.set]{fullShare} (if 1 < n then outOf tab num reg else f₀))
      ∗ ((outB L k₁).view.loc (V d (cV L) (jV L)) ↦[(outB L k₁).view.set]{fullShare} (if 1 < n then outOf tab num reg else f₀)))
    ∗ semVal (V d (cV L) (jV L), SemLoc.dma cc1_scratch3.sem) 0
    ∗ semVal (V d (cV L) (jV L), SemLoc.dma cc1_scoped1.sem) 0
    ∗ semVal (V d (cV L) (jV L), SemLoc.dma cc1_scoped2.sem) 0
    ∗ semVal (V d (cV L) (jV L), SemLoc.dma cc1_scoped3.sem) 0
    ∗ ∃ W', ⌜∀ p ∈ W', p ∈ W ∨ p.2 = none⌝ ∗ owes (V d (cV L) (jV L)) O W')

set_option maxHeartbeats 4000000 in
/-- The task of vector subcore `(L 0, L 1)`. -/
theorem tile_body (hF : (K (F := F)).Facts) (qt qn qr : PosShare TreeShare) (hnum : ∀ j, (num j : BitVec 32).toNat < 36864)
    (f₀ : S97x64x768.Idx → Elt F .f32) (O : CellTallies nD τ sig (HIx 1)) (W : Waits sig (HIx 1)) (hO : ∀ g, O g none = 0) :
    iprop(levAts (K (F := F)).L (K (F := F)).lev ∗ emp ∗ task d L tab num reg qt qn qr f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_body L tabV (Memref.isWhole_whole _) numV (Memref.isWhole_whole _) regV (Memref.isWhole_whole _) outV (Memref.isWhole_whole _)
            lstV (Memref.isWhole_whole _) rowV (Memref.isWhole_whole _) rgsV (Memref.isWhole_whole _) cc1_scratch3
            cc1_scoped0 cc1_scoped1 cc1_scoped2 cc1_scoped3)
          fun _ => iprop(task d L tab num reg qt qn qr (outOf tab num reg)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__gather_body_eq_skeleton]; unfold cc1__gather_body_skel
  rw [(K (F := F)).scopedBufs_V hF d (cV L) (jV L), SparseCore.Cfg.scopedSems0_V (Val := Elt F) d (cV L) (jV L), ownSems0_V, ownBufs_V]
  iintro ⟨#Hlv, -, ⟨Ht, Hn, Hr, ⟨HA0, HB0⟩, ⟨HA1, HB1⟩⟩, ⟨⟨%fl, Hl⟩, ⟨%fw, Hw⟩, ⟨%fg, Hg⟩, Hbufs⟩, ⟨HsG, Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (show ((V d (cV L) (jV L)).loc cc1_scratch0 ↦{fullShare} fl : sProp 𝕄) = (lstV).view.loc (V d (cV L) (jV L)) ↦{fullShare} fl from rfl)) $$ Hl
  ihave Hw' := (Entails.of_eq (show ((V d (cV L) (jV L)).loc cc1_scratch1 ↦{fullShare} fw : sProp 𝕄) = (rowV).view.loc (V d (cV L) (jV L)) ↦{fullShare} fw from rfl)) $$ Hw
  ihave Hg' := (Entails.of_eq (show ((V d (cV L) (jV L)).loc cc1_scratch2 ↦{fullShare} fg : sProp 𝕄) = (rgsV).view.loc (V d (cV L) (jV L)) ↦{fullShare} fg from rfl)) $$ Hg
  sl_exec
  have hreg : View.write (Elt F) (rgsV).view fg (tile_body.sl.dma0 reg) Finset.univ = reg := by
    rw [View.write_whole_univ]
    unfold tile_body.sl.dma0
    rw [ReadAs.apply_same]
    simp only [Memref.view_whole, View.read_whole]
  rw [hreg]
  sl_for (inv d L tab num reg qt qn O W f₀) $$ [Hmw Ht Hn Hg' Hl' Hw' HA0 HB0 HA1 HB1 HsG Hs1 Hs2 Hs3 HO]
  case region =>
    intro k acc
    unfold inv
    match k with
    | ⟨0, _⟩ =>
      simp only [show ¬ (0 : ℕ) < 0 from by decide, show ¬ (1 : ℕ) < 0 from by decide, show (0 : ℕ) < 0 + 1 from by decide, show ¬ (1 : ℕ) < 0 + 1 from by decide, if_true, if_false]
      iintro ⟨#Hmw, Ht, Hn, Hg, Hl, Hw, ⟨HA, HB⟩, HK, HsG, Hs1, Hs2, Hs3, HO⟩
      iapply (wp_wand_r frame)
      isplitr [HK]
      · iapply (trip d L tab num reg qt qn hnum O W k₀ acc _ f₀) $$ [Ht Hn Hg Hl Hw HA HB HsG Hs1 Hs2 Hs3 HO]
        isplitr; · iexact Hmw
        isplitl [Ht]; · iexact Ht
        isplitl [Hn]; · iexact Hn
        isplitl [Hg]; · iexact Hg
        isplitl [Hl]; · iexact Hl
        isplitl [Hw]; · iexact Hw
        isplitl [HA]; · iexact HA
        isplitl [HB]; · iexact HB
        isplitl [HsG]; · iexact HsG
        isplitl [Hs1]; · iexact Hs1
        isplitl [Hs2]; · iexact Hs2
        isplitl [Hs3]; · iexact Hs3
        iexact HO
      · iintro %_ ⟨-, Ht, Hn, Hg, Hl, Hw, HA, HB, HsG, Hs1, Hs2, Hs3, HO⟩
        isplitr; · iexact Hmw
        isplitl [Ht]; · iexact Ht
        isplitl [Hn]; · iexact Hn
        isplitl [Hg]; · iexact Hg
        isplitl [Hl]; · iexact Hl
        isplitl [Hw]; · iexact Hw
        isplitl [HA HB]; · isplitl [HA]; · iexact HA
                           iexact HB
        isplitl [HK]; · iexact HK
        isplitl [HsG]; · iexact HsG
        isplitl [Hs1]; · iexact Hs1
        isplitl [Hs2]; · iexact Hs2
        isplitl [Hs3]; · iexact Hs3
        iexact HO
    | ⟨1, _⟩ =>
      simp only [show (0 : ℕ) < 1 from by decide, show ¬ (1 : ℕ) < 1 from by decide, show (0 : ℕ) < 1 + 1 from by decide, show (1 : ℕ) < 1 + 1 from by decide, if_true, if_false]
      iintro ⟨#Hmw, Ht, Hn, Hg, Hl, Hw, HK, ⟨HA, HB⟩, HsG, Hs1, Hs2, Hs3, HO⟩
      iapply (wp_wand_r frame)
      isplitr [HK]
      · iapply (trip d L tab num reg qt qn hnum O W k₁ acc _ f₀) $$ [Ht Hn Hg Hl Hw HA HB HsG Hs1 Hs2 Hs3 HO]
        isplitr; · iexact Hmw
        isplitl [Ht]; · iexact Ht
        isplitl [Hn]; · iexact Hn
        isplitl [Hg]; · iexact Hg
        isplitl [Hl]; · iexact Hl
        isplitl [Hw]; · iexact Hw
        isplitl [HA]; · iexact HA
        isplitl [HB]; · iexact HB
        isplitl [HsG]; · iexact HsG
        isplitl [Hs1]; · iexact Hs1
        isplitl [Hs2]; · iexact Hs2
        isplitl [Hs3]; · iexact Hs3
        iexact HO
      · iintro %_ ⟨-, Ht, Hn, Hg, Hl, Hw, HA, HB, HsG, Hs1, Hs2, Hs3, HO⟩
        isplitr; · iexact Hmw
        isplitl [Ht]; · iexact Ht
        isplitl [Hn]; · iexact Hn
        isplitl [Hg]; · iexact Hg
        isplitl [Hl]; · iexact Hl
        isplitl [Hw]; · iexact Hw
        isplitl [HK]; · iexact HK
        isplitl [HA HB]; · isplitl [HA]; · iexact HA
                           iexact HB
        isplitl [HsG]; · iexact HsG
        isplitl [Hs1]; · iexact Hs1
        isplitl [Hs2]; · iexact Hs2
        isplitl [Hs3]; · iexact Hs3
        iexact HO
    | ⟨n + 2, h⟩ => exact absurd h (by rw [show Scf.trips k1_t1_loop.lb k1_t1_loop.ub k1_t1_loop.st = 2 by decide]; omega)
  · unfold inv
    simp only [show ¬ (0 : ℕ) < 0 from by decide, show ¬ (1 : ℕ) < 0 from by decide, if_false]
    isplitr; · iexact Hmw
    isplitl [Ht]; · iexact Ht
    isplitl [Hn]; · iexact Hn
    isplitl [Hg']; · iexact Hg'
    isplitl [Hl']; · iexists _; iexact Hl'
    isplitl [Hw']; · iexists _; iexact Hw'
    isplitl [HA0 HB0]; · isplitl [HA0]; · iexact HA0
                         iexact HB0
    isplitl [HA1 HB1]; · isplitl [HA1]; · iexact HA1
                         iexact HB1
    isplitl [HsG]; · iexact HsG
    isplitl [Hs1]; · iexact Hs1
    isplitl [Hs2]; · iexact Hs2
    isplitl [Hs3]; · iexact Hs3
    iexists _; isplitr
    swap; · iexact HO
    ipureintro; intro p hp
    rcases Finset.mem_insert.mp hp with hp | hp; · exact .inr (hp ▸ rfl)
    exact .inl hp
  iintro %_ HI
  unfold inv
  have htr : Scf.trips k1_t1_loop.lb k1_t1_loop.ub k1_t1_loop.st = 2 := by decide
  simp only [htr, show (0 : ℕ) < 2 from by decide, show (1 : ℕ) < 2 from by decide, if_true]
  icases HI with ⟨-, Ht, Hn, Hg, ⟨%fl', Hl⟩, ⟨%fw', Hw⟩, HK0, HK1, HsG, Hs1, Hs2, Hs3, %W', %hW', HO⟩
  sl_step
  isplitl [Ht Hn Hr HK0 HK1]
  · isplitl [Ht]; · iexact Ht
    isplitl [Hn]; · iexact Hn
    isplitl [Hr]; · iexact Hr
    isplitl [HK0]; · iexact HK0
    iexact HK1
  isplitl [Hl Hw Hg Hbufs]
  · isplitl [Hl]; · iexists _; iexact Hl
    isplitl [Hw]; · iexists _; iexact Hw
    isplitl [Hg]; · iexists _; iexact Hg
    iexact Hbufs
  isplitl [HsG Hs0 Hs1 Hs2 Hs3 Hsems]
  · isplitl [HsG]; · iexact HsG
    isplitl [Hs0]; · iexact Hs0
    isplitl [Hs1]; · iexact Hs1
    isplitl [Hs2]; · iexact Hs2
    isplitl [Hs3]; · iexact Hs3
    iexact Hsems
  iexists W'; isplitr
  · ipureintro; exact hW'
  iexact HO

end Task

end Cert.Proof.Gather

end
-- ==== Proof.Call.lean ====
/-
  The gather call as the launch sees it: how its three operands go out to the two SparseCores and their sixteen tiles as
  read shares, how its output is cut into the pieces the thirty-two tasks write, and the obligations of the launch
  theorem discharged by the task's lemma. The operands' contents are parameters.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Reshape
public import Idealize.ShloMosaic.Lib.ViewIndex
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Tile
public import proofs.«01_k».proof.Proof.Task

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The tasks' coordinates and their pieces of the output -/

def crd (c : Fin 2) (i : Fin 16) : grid1.Coords :=
  fun | 0 => c | 1 => i | ⟨_ + 2, h⟩ => absurd h (Nat.not_lt.2 (Nat.le_add_left _ _))

theorem smp_crd (c : Fin 2) (i : Fin 16) (k : Fin k1_t1_loop.trips) : (smp (crd c i) k).val = 4 * i.val + 2 * c.val + k.val := rfl

theorem mem_outA (L : grid1.Coords) (k : Fin k1_t1_loop.trips) (x : S97x64x768.Idx) :
    x ∈ (outA L k).view.set ↔ (x 0).val < 96 ∧ (x 1).val = (smp L k).val := by
  constructor
  · intro h
    obtain ⟨y, rfl⟩ := View.exists_emb_of_mem_set _ h
    rw [outA_emb]
    exact ⟨(y 0).isLt, rfl⟩
  · rintro ⟨h0, h1⟩
    have e : x = (outA L k).view.emb (ix2 (n0 := 96) (n1 := 768) ⟨(x 0).val, h0⟩ (x 2)) := by
      rw [outA_emb]
      funext a
      match a with
      | 0 => rfl
      | 1 => exact Fin.ext h1
      | 2 => rfl
    rw [e]; exact View.emb_mem_set _ _

theorem mem_outB (L : grid1.Coords) (k : Fin k1_t1_loop.trips) (x : S97x64x768.Idx) :
    x ∈ (outB L k).view.set ↔ (x 0).val = 96 ∧ (x 1).val = (smp L k).val := by
  constructor
  · intro h
    obtain ⟨y, rfl⟩ := View.exists_emb_of_mem_set _ h
    rw [outB_emb]
    exact ⟨rfl, rfl⟩
  · rintro ⟨h0, h1⟩
    have e : x = (outB L k).view.emb (ix2 (n0 := 1) (n1 := 768) 0 (x 2)) := by
      rw [outB_emb]
      funext a
      match a with
      | 0 => exact Fin.ext h0
      | 1 => exact Fin.ext h1
      | 2 => rfl
    rw [e]; exact View.emb_mem_set _ _

/-- The output's pieces: by core, tile, trip, and whether the gathered rows or the register row. -/
abbrev PIx : Type := Fin 2 × Fin 16 × Fin k1_t1_loop.trips × Bool

def pset (t : PIx) : Finset S97x64x768.Idx :=
  match t.2.2.2 with
  | false => (outA (crd t.1 t.2.1) t.2.2.1).view.set
  | true => (outB (crd t.1 t.2.1) t.2.2.1).view.set

theorem mem_pset (t : PIx) (x : S97x64x768.Idx) :
    x ∈ pset t ↔ ((x 0).val = 96 ↔ t.2.2.2 = true) ∧ (x 1).val = 4 * t.2.1.val + 2 * t.1.val + t.2.2.1.val := by
  obtain ⟨c, i, k, b⟩ := t
  have h := (x 0).isLt
  have h97 : S97x64x768.size 0 = 97 := rfl
  cases b with
  | false => exact (mem_outA _ _ _).trans (and_congr (by simp; omega) Iff.rfl)
  | true => exact (mem_outB _ _ _).trans (and_congr (by simp) Iff.rfl)

theorem pset_disjoint : ∀ t ∈ (Finset.univ : Finset PIx), ∀ u ∈ (Finset.univ : Finset PIx), t ≠ u → Disjoint (pset t) (pset u) := by
  intro t _ u _ h
  rw [Finset.disjoint_left]
  intro x ht hu
  rw [mem_pset] at ht hu
  refine h ?_
  obtain ⟨c, i, k, b⟩ := t
  obtain ⟨c', i', k', b'⟩ := u
  have hk := lt_of_lt_of_le k.isLt k1_t1_abs.2.1
  have hk' := lt_of_lt_of_le k'.isLt k1_t1_abs.2.1
  simp only at ht hu
  have e1 : c = c' := Fin.ext (by omega)
  have e2 : i = i' := Fin.ext (by omega)
  have e3 : k = k' := Fin.ext (by omega)
  have e4 : b = b' := Bool.eq_iff_iff.2 (ht.1.symm.trans hu.1)
  rw [e1, e2, e3, e4]

theorem pset_cover : (Finset.univ : Finset PIx).biUnion pset = Finset.univ := by
  refine Finset.eq_univ_iff_forall.2 fun x => Finset.mem_biUnion.2 ?_
  have h1 : (x 1).val < 64 := (x 1).isLt
  refine ⟨(⟨(x 1).val / 2 % 2, by omega⟩, ⟨(x 1).val / 4, by omega⟩, ⟨(x 1).val % 2, by rw [show k1_t1_loop.trips = 2 by decide]; omega⟩, decide ((x 0).val = 96)),
    Finset.mem_univ _, (mem_pset _ _).2 ⟨by simp, by simp only; omega⟩⟩

/-- A task's four pieces of the output, at `f`. -/
abbrev pcs (d : Dev nD) (L : grid1.Coords) (f : S97x64x768.Idx → Elt F .f32) : sProp 𝕄 :=
  iprop((((outA L k₀).view.loc (V d (cV L) (jV L)) ↦[(outA L k₀).view.set]{fullShare} f)
      ∗ ((outB L k₀).view.loc (V d (cV L) (jV L)) ↦[(outB L k₀).view.set]{fullShare} f))
    ∗ (((outA L k₁).view.loc (V d (cV L) (jV L)) ↦[(outA L k₁).view.set]{fullShare} f)
      ∗ ((outB L k₁).view.loc (V d (cV L) (jV L)) ↦[(outB L k₁).view.set]{fullShare} f)))

theorem out_pieces (d : Dev nD) (f : Buf (Elt F) (outLoc d)) :
    (outLoc d ↦{fullShare} f : sProp 𝕄) = bigSep Finset.univ fun c : Fin 2 => bigSep Finset.univ fun i : Fin 16 => pcs d (crd c i) f := by
  have h : (outLoc d ↦{fullShare} f : sProp 𝕄) = bigSep Finset.univ fun t : PIx => outLoc d ↦[pset t]{fullShare} f := by
    rw [← pointsTo_biUnion Finset.univ (ℓ := outLoc d) pset pset_disjoint, pset_cover]; try rfl
  rw [h, bigSep_univ_prod]
  refine bigSep_congr fun c _ => ?_
  rw [bigSep_univ_prod]
  refine bigSep_congr fun i _ => ?_
  rw [bigSep_univ_prod, bigSep_univ_eq_bigSepL [k₀, k₁] (by decide) (by decide)]
  show iprop((bigSep Finset.univ fun b : Bool => outLoc d ↦[pset (c, i, k₀, b)]{fullShare} f) ∗ (bigSep Finset.univ fun b : Bool => outLoc d ↦[pset (c, i, k₁, b)]{fullShare} f)) = _
  rw [bigSep_univ_eq_bigSepL [false, true] (by decide) (by decide), bigSep_univ_eq_bigSepL [false, true] (by decide) (by decide)]
  rfl

/-! ## What the handshakes carry -/

variable (tab : (d : Dev nD) → Buf (Elt F) (tabLoc d)) (num : (d : Dev nD) → Buf (Elt F) (numLoc d)) (reg : (d : Dev nD) → Buf (Elt F) (regLoc d))
  (out₀ : (d : Dev nD) → Buf (Elt F) (outLoc d))

/-- A core's read share of an operand, and a tile's share of its core's. -/
abbrev qC (c : Fin 2) : PosShare TreeShare := Transfers.shareTok fullShare 2 c
abbrev qT (c : Fin 2) (i : Fin 16) : PosShare TreeShare := Transfers.shareTok (qC c) 16 i

/-- The three operands' contents at share `q`. -/
abbrev ops (q : PosShare TreeShare) (d : Dev nD) : sProp 𝕄 :=
  iprop((tabLoc d ↦{q} tab d) ∗ (numLoc d ↦{q} num d) ∗ (regLoc d ↦{q} reg d))

abbrev coreRes (d : Dev nD) (c : Fin 2) (f : Buf (Elt F) (outLoc d)) : sProp 𝕄 :=
  iprop(ops tab num reg (qC c) d ∗ bigSep Finset.univ fun i : Fin 16 => pcs d (crd c i) f)

abbrev taskRes (d : Dev nD) (c : Fin 2) (i : Fin 16) (f : Buf (Elt F) (outLoc d)) : sProp 𝕄 :=
  task d (crd c i) (tab d) (num d) (reg d) (qT c i) (qT c i) (qT c i) f

abbrev out₁ (d : Dev nD) : Buf (Elt F) (outLoc d) := outOf (tab d) (num d) (reg d)

def P : (K (F := F)).Pay (nD := nD) (Val := Elt F) (Name := ℕ) (U := UU) where
  st := fun q d c => match q with | 0 => coreRes tab num reg d (Fin.cast nCore_zero c) (out₀ d)
  dn := fun q d c => match q with | 0 => coreRes tab num reg d (Fin.cast nCore_zero c) (out₁ tab num reg d)
  go := fun q d c i => match q with | 0 => taskRes tab num reg d (Fin.cast nCore_zero c) (Fin.cast nSub_zero i) (out₀ d)
  td := fun q d c i => match q with | 0 => taskRes tab num reg d (Fin.cast nCore_zero c) (Fin.cast nSub_zero i) (out₁ tab num reg d)
  x := fun _ _ => iprop(emp)

instance P_storable : (P tab num reg out₀).IsStorable where
  st q d c := match q with
    | 0 => (inferInstance : BI.Storable (upEmb : UEmb _ 𝕄) (coreRes tab num reg d (Fin.cast nCore_zero c) (out₀ d)))
  dn q d c := match q with
    | 0 => (inferInstance : BI.Storable (upEmb : UEmb _ 𝕄) (coreRes tab num reg d (Fin.cast nCore_zero c) (out₁ tab num reg d)))
  go q d c i := match q with
    | 0 => (inferInstance : BI.Storable (upEmb : UEmb _ 𝕄) (taskRes tab num reg d (Fin.cast nCore_zero c) (Fin.cast nSub_zero i) (out₀ d)))
  td q d c i := match q with
    | 0 => (inferInstance : BI.Storable (upEmb : UEmb _ 𝕄) (taskRes tab num reg d (Fin.cast nCore_zero c) (Fin.cast nSub_zero i) (out₁ tab num reg d)))

/-! ## The obligation -/

variable [FloatOps F]

theorem defs₀_vector (c : Fin τ.nSC) (s : Fin τ.nSub) :
    defs₀ (F := F) (.scVector c s) 1 ()
      = SparseCore.onTile hcore1 hsub1 (fun c s => cc1__gather_body (crd c s)
          tabV (Memref.isWhole_whole _) numV (Memref.isWhole_whole _) regV (Memref.isWhole_whole _) outV (Memref.isWhole_whole _)
          lstV (Memref.isWhole_whole _) rowV (Memref.isWhole_whole _) rgsV (Memref.isWhole_whole _) cc1_scratch3
          cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hnum : ∀ d j, (num d j : BitVec 32).toNat < 36864) :
    (K (F := F)).TileObl (D (F := F)) 𝒱 (P tab num reg out₀) v₀ 0 := by
  intro d c i O W hO _ _
  simp only [show (P tab num reg out₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (crd ⟨_, hci.1⟩ ⟨_, hci.2⟩) (tab d) (num d) (reg d) hF _ _ _ (hnum d) (out₀ d) O W hO).trans (wp_mono frame _ _ fun _ => obl_post)

/-! ## The operands dealt out and joined again -/

omit [FloatOps F] in
theorem ops_split (q : PosShare TreeShare) (n : ℕ) (d : Dev nD) :
    (ops tab num reg q d : sProp 𝕄)
      ⊢ iprop(ops tab num reg (Transfers.shareDrop q n) d ∗ bigSep Finset.univ fun i : Fin n => ops tab num reg (Transfers.shareTok q n i) d) := by
  unfold ops
  rw [bigSep_sep', bigSep_sep']
  iintro ⟨Ht, Hn, Hr⟩
  ihave Ht := (Transfers.pointsTo_toks_split q n) $$ Ht
  ihave Hn := (Transfers.pointsTo_toks_split q n) $$ Hn
  ihave Hr := (Transfers.pointsTo_toks_split q n) $$ Hr
  icases Ht with ⟨Ht, Hts⟩
  icases Hn with ⟨Hn, Hns⟩
  icases Hr with ⟨Hr, Hrs⟩
  isplitl [Ht Hn Hr]
  · isplitl [Ht]; · iexact Ht
    isplitl [Hn]; · iexact Hn
    iexact Hr
  isplitl [Hts]; · iexact Hts
  isplitl [Hns]; · iexact Hns
  iexact Hrs

omit [FloatOps F] in
theorem ops_join (q : PosShare TreeShare) (n : ℕ) (d : Dev nD) :
    iprop(ops tab num reg (Transfers.shareDrop q n) d ∗ bigSep Finset.univ fun i : Fin n => ops tab num reg (Transfers.shareTok q n i) d)
      ⊢ (ops tab num reg q d : sProp 𝕄) := by
  unfold ops
  rw [bigSep_sep', bigSep_sep']
  iintro ⟨⟨Ht, Hn, Hr⟩, Hts, Hns, Hrs⟩
  isplitl [Ht Hts]
  · iapply (Transfers.pointsTo_toks_join q n); isplitl [Ht] <;> iassumption
  isplitl [Hn Hns]
  · iapply (Transfers.pointsTo_toks_join q n); isplitl [Hn] <;> iassumption
  · iapply (Transfers.pointsTo_toks_join q n); isplitl [Hr] <;> iassumption

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A task's resources, the operands and the pieces apart. -/
theorem taskRes_split (d : Dev nD) (c : Fin 2) (i : Fin 16) (f : Buf (Elt F) (outLoc d)) :
    (taskRes tab num reg d c i f : sProp 𝕄) ⊢ iprop(ops tab num reg (qT c i) d ∗ pcs d (crd c i) f) := by
  iintro ⟨Ht, Hn, Hr, HA, HB⟩
  isplitl [Ht Hn Hr]
  · isplitl [Ht]; · iexact Ht
    isplitl [Hn]; · iexact Hn
    iexact Hr
  isplitl [HA]; · iexact HA
  iexact HB

omit [FloatOps F] in
theorem taskRes_join (d : Dev nD) (c : Fin 2) (i : Fin 16) (f : Buf (Elt F) (outLoc d)) :
    iprop(ops tab num reg (qT c i) d ∗ pcs d (crd c i) f) ⊢ (taskRes tab num reg d c i f : sProp 𝕄) := by
  iintro ⟨⟨Ht, Hn, Hr⟩, HA, HB⟩
  isplitl [Ht]; · iexact Ht
  isplitl [Hn]; · iexact Hn
  isplitl [Hr]; · iexact Hr
  isplitl [HA]; · iexact HA
  iexact HB

omit [FloatOps F] in
theorem taskRes_all (d : Dev nD) (c : Fin 2) (f : Buf (Elt F) (outLoc d)) :
    (bigSep Finset.univ fun i : Fin 16 => (taskRes tab num reg d c i f : sProp 𝕄))
      = iprop((bigSep Finset.univ fun i : Fin 16 => ops tab num reg (qT c i) d) ∗ bigSep Finset.univ fun i : Fin 16 => pcs d (crd c i) f) :=
  (bigSep_congr fun i _ => BI.Entails.antisymm (taskRes_split tab num reg d c i f) (taskRes_join tab num reg d c i f)).trans (bigSep_sep' _ _ _)

omit [FloatOps F] in
theorem coreRes_all (d : Dev nD) (f : Buf (Elt F) (outLoc d)) :
    (bigSep Finset.univ fun c : Fin 2 => (coreRes tab num reg d c f : sProp 𝕄))
      = iprop((bigSep Finset.univ fun c : Fin 2 => ops tab num reg (qC c) d)
        ∗ bigSep Finset.univ fun c : Fin 2 => bigSep Finset.univ fun i : Fin 16 => pcs d (crd c i) f) := bigSep_sep' _ _ _

omit [FloatOps F] in
theorem vecSplit : (K (F := F)).VecSplit' (P tab num reg out₀) 0 := by
  intro d c
  show coreRes tab num reg d (Fin.cast nCore_zero c) (out₀ d) ⊢ |={Set.univ}=> iprop(
      (bigSep Finset.univ fun i : Fin ((K (F := F)).nSub 0) => taskRes tab num reg d (Fin.cast nCore_zero c) (Fin.cast nSub_zero i) (out₀ d))
      ∗ ((bigSep Finset.univ fun i : Fin ((K (F := F)).nSub 0) => taskRes tab num reg d (Fin.cast nCore_zero c) (Fin.cast nSub_zero i) (out₁ tab num reg d))
          -∗ coreRes tab num reg d (Fin.cast nCore_zero c) (out₁ tab num reg d)))
  rw [bigSep_tasks (F := F) (fun i => taskRes tab num reg d (Fin.cast nCore_zero c) i (out₀ d)),
    bigSep_tasks (F := F) (fun i => taskRes tab num reg d (Fin.cast nCore_zero c) i (out₁ tab num reg d))]
  generalize Fin.cast nCore_zero c = c'
  rw [taskRes_all, taskRes_all]
  iintro ⟨Hops, Hp⟩
  ihave H := (ops_split tab num reg (qC c') 16 d) $$ Hops
  icases H with ⟨Hd, Hts⟩
  imodintro
  isplitl [Hts Hp]
  · isplitl [Hts]; · iexact Hts
    iexact Hp
  iintro ⟨Hts, Hp⟩
  isplitl [Hd Hts]
  · iapply (ops_join tab num reg (qC c') 16 d)
    isplitl [Hd]; · iexact Hd
    iexact Hts
  iexact Hp

/-! ## The launch element of the certificate's ghost state -/

abbrev EP : Emb UP (MT nD τ sig (HIx 1) (Elt F) ℕ UU ℕ) := (Emb.inl : Emb UP (UP × Counters)).trans embR
abbrev adm : (p : Fin 1) → (pcfgs (F := F) p).Adm := fun p => (cfgs p).toPCfg_adm

theorem phinj : Function.Injective (Pipeline.cellOf (nD := nD) (τ := τ) (Pipeline.pin (pcfgs (F := F)) adm)) := cellOf_inj

def u₀ : UU := (initOf (K (F := F)).hsCells (K (F := F)).hsToks,
  initOf (Pipeline.cells (Pipeline.pin (pcfgs (F := F)) adm) phinj) (Pipeline.launchToks (Pipeline.pin (pcfgs (F := F)) adm) phinj), 1)

/-- The window pipeline's launch state on one core. -/
def ghost0 (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks))
        ∗ (bigSep Finset.univ fun d : Dev nD => ghost0 (F := F) d)
        ∗ bigSep Finset.univ fun thr : Thread nD τ => bigSep Finset.univ fun q : Fin 1 => (P tab num reg out₀).x q thr) := by
  unfold u₀
  iintro Hu
  ihave H := (ownU_pair (initOf (K (F := F)).hsCells (K (F := F)).hsToks)
    ((initOf (Pipeline.cells (Pipeline.pin (pcfgs (F := F)) adm) phinj) (Pipeline.launchToks (Pipeline.pin (pcfgs (F := F)) adm) phinj), 1) : UP × Counters)) $$ Hu
  icases H with ⟨HH, HR⟩
  ihave HR := (own_pair_emb (embR : Emb (UP × Counters) 𝕄) _ _) $$ HR
  icases HR with ⟨HP, -⟩
  imod (Pipeline.fund_ghost (Pipeline.pin (pcfgs (F := F)) adm) EP phinj) $$ HP with ⟨Hg, Ht⟩
  imodintro
  isplitl [HH]; · iexact HH
  isplitl [Hg Ht]
  · iapply (show iprop((bigSep Finset.univ fun c : Dev nD => bigSep Finset.univ fun p => Pipeline.cellsGhost (Pipeline.pin (pcfgs (F := F)) adm) EP p c)
          ∗ (bigSep Finset.univ fun c : Dev nD => bigSep Finset.univ fun p => Pipeline.toksInit (Pipeline.pin (pcfgs (F := F)) adm) EP p c))
        ⊢ (bigSep Finset.univ fun d : Dev nD => ghost0 (F := F) d : sProp 𝕄) from by
      rw [← bigSep_sep']
      refine bigSep_mono fun c _ => ?_
      show _ ⊢ ghost0 (F := F) c
      rw [bigSep_univ_of_subsingleton (0 : Fin 1), bigSep_univ_of_subsingleton (0 : Fin 1)]
      exact Entails.of_eq (rfl : (ghost0 (F := F) c : sProp 𝕄) = ghost0 (F := F) c))
    isplitl [Hg] <;> iassumption
  rw [show (bigSep Finset.univ fun thr : Thread nD τ => bigSep Finset.univ fun q : Fin 1 => (P tab num reg out₀).x q thr) = bigSep Finset.univ fun _ => iprop(emp) from
    bigSep_congr fun _ _ => bigSep_univ_of_subsingleton (0 : Fin 1)]
  rw [show (bigSep Finset.univ fun _ : Thread nD τ => iprop(emp)) = (iprop(emp) : sProp 𝕄) from bigSep_emp_const _]
  iempintro

/-! ## The call's precondition and postcondition, whole -/

omit [FloatOps F] in
theorem st_intro (d : Dev nD) :
    iprop(ops tab num reg fullShare d ∗ (outLoc d ↦{fullShare} out₀ d))
      ⊢ iprop(ops tab num reg (Transfers.shareDrop fullShare 2) d
          ∗ bigSep Finset.univ fun c : Fin ((K (F := F)).nCore 0) => (P tab num reg out₀).st 0 d c) := by
  show _ ⊢ iprop(_ ∗ bigSep Finset.univ fun c : Fin ((K (F := F)).nCore 0) => coreRes tab num reg d (Fin.cast nCore_zero c) (out₀ d))
  rw [bigSep_cores (F := F) (fun c => coreRes tab num reg d c (out₀ d)), coreRes_all, out_pieces]
  iintro ⟨Hops, Hp⟩
  ihave H := (ops_split tab num reg fullShare 2 d) $$ Hops
  icases H with ⟨Hd, Hts⟩
  isplitl [Hd]; · iexact Hd
  isplitl [Hts]; · iexact Hts
  iexact Hp

omit [FloatOps F] in
theorem dn_elim (d : Dev nD) :
    iprop(ops tab num reg (Transfers.shareDrop fullShare 2) d
        ∗ bigSep Finset.univ fun c : Fin ((K (F := F)).nCore 0) => (P tab num reg out₀).dn 0 d c)
      ⊢ iprop(ops tab num reg fullShare d ∗ (outLoc d ↦{fullShare} out₁ tab num reg d)) := by
  show iprop(_ ∗ bigSep Finset.univ fun c : Fin ((K (F := F)).nCore 0) => coreRes tab num reg d (Fin.cast nCore_zero c) (out₁ tab num reg d)) ⊢ _
  rw [bigSep_cores (F := F) (fun c => coreRes tab num reg d c (out₁ tab num reg d)), coreRes_all, out_pieces]
  iintro ⟨Hd, Hts, Hp⟩
  isplitl [Hd Hts]
  · iapply (ops_join tab num reg fullShare 2 d)
    isplitl [Hd]; · iexact Hd
    iexact Hts
  iexact Hp

end Cert.Proof.Gather

end
-- ==== Proof.Sel.lean ====
/-
  The scoring block as plain vector functions: the scores of eight samples from the block's operands, the rank of each
  score within its sample, the bisection on the ranks, the kept entries and the places of the ninety-six kept entries
  in each row. Stated over any float values.
-/
module

public import proofs.«01_k».proof.Defs
public import Idealize.ShloMosaic.Lib.Pointwise.Reshape
public import Idealize.ShloMosaic.Lib.Pipeline.Value
public import proofs.«01_k».proof.Proof.Gen.KernelIdeal
public import proofs.«01_k».proof.Proof.Gen.KernelIdeal.Skeleton

@[expose] public section

noncomputable section

namespace Cert.Proof.Score

open Cert.KernelIdeal Cert.KernelIdeal.Gen
open Idealize.ShloMosaic

variable {F : FTy → Type} [FloatOps F]

/-! ## The scores -/

/-- One sample's column of the second layer, from the first layer's dense part on the sample's rows and its text row. -/
def colOf (dn : FVec F S576x256 .f32) (tx : FVec F S1x768 .f32) (X4 : Vec F S768x256 .f32) (X5 : Vec F S1x256 .f32) (X6 : Vec F S256x1 .f32) : FVec F S576x1 .f32 :=
  matmul dot_S576x256_S256x1_S576x1_1_0_0_1_n_n none
    (maximumf (addf (addf dn (broadcastTo S576x256 (matmul dot_S1x768_S768x256_S1x256_1_0_0_1_n_n none tx X4 (constant S1x256 .f32 0x00000000#32)) broadcasts_S1x256_S576x256))
      (broadcastTo S576x256 (shapeCast S1x256 X5 shapeCasts_S1x256_S1x256) broadcasts_S1x256_S576x256))
      (broadcast S576x256 (Scalar.ofBits .f32 0x00000000#32)))
    X6 (constant S576x1 .f32 0x00000000#32)

/-- A sample's rows of the dense part, and its part of the text row. -/
theorem slD (t : Fin 8) : S4608x256.Slices ![576 * t.val, 0] S576x256 := by
  fin_cases t
  · exact slices_S4608x256_o0_0_S576x256
  · exact slices_S4608x256_o576_0_S576x256
  · exact slices_S4608x256_o1152_0_S576x256
  · exact slices_S4608x256_o1728_0_S576x256
  · exact slices_S4608x256_o2304_0_S576x256
  · exact slices_S4608x256_o2880_0_S576x256
  · exact slices_S4608x256_o3456_0_S576x256
  · exact slices_S4608x256_o4032_0_S576x256
theorem slT (t : Fin 8) : S1x6144.Slices ![0, 768 * t.val] S1x768 := by
  fin_cases t
  · exact slices_S1x6144_o0_0_S1x768
  · exact slices_S1x6144_o0_768_S1x768
  · exact slices_S1x6144_o0_1536_S1x768
  · exact slices_S1x6144_o0_2304_S1x768
  · exact slices_S1x6144_o0_3072_S1x768
  · exact slices_S1x6144_o0_3840_S1x768
  · exact slices_S1x6144_o0_4608_S1x768
  · exact slices_S1x6144_o0_5376_S1x768
theorem slC (t : Fin 8) : S576x8.Slices ![0, t.val] S576x1 := by
  fin_cases t
  · exact slices_S576x8_o0_0_S576x1
  · exact slices_S576x8_o0_1_S576x1
  · exact slices_S576x8_o0_2_S576x1
  · exact slices_S576x8_o0_3_S576x1
  · exact slices_S576x8_o0_4_S576x1
  · exact slices_S576x8_o0_5_S576x1
  · exact slices_S576x8_o0_6_S576x1
  · exact slices_S576x8_o0_7_S576x1

def colT (X1 : Vec F S4608x768 .f32) (X2 : Vec F S77x6144 .f32) (X3 X4 : Vec F S768x256 .f32) (X5 : Vec F S1x256 .f32) (X6 : Vec F S256x1 .f32) (t : Fin 8) : FVec F S576x1 .f32 :=
  colOf (extractStridedSlice S576x256 ![576 * t.val, 0] (k0_pay6 X1 X3) (slD t)) (extractStridedSlice S1x768 ![0, 768 * t.val] (k0_pay7 X2) (slT t)) X4 X5 X6

/-- The eight samples' scores. -/
def scoreB (X1 : Vec F S4608x768 .f32) (X2 : Vec F S77x6144 .f32) (X3 X4 : Vec F S768x256 .f32) (X5 : Vec F S1x256 .f32) (X6 : Vec F S256x1 .f32) (X7 : Vec F S1x1 .f32) : FVec F S8x576 .f32 :=
  logistic (addf (transpose S8x576 [1, 0] (concatenate S576x8 1 [⟨S576x1, colT X1 X2 X3 X4 X5 X6 0⟩, ⟨S576x1, colT X1 X2 X3 X4 X5 X6 1⟩, ⟨S576x1, colT X1 X2 X3 X4 X5 X6 2⟩, ⟨S576x1, colT X1 X2 X3 X4 X5 X6 3⟩,
      ⟨S576x1, colT X1 X2 X3 X4 X5 X6 4⟩, ⟨S576x1, colT X1 X2 X3 X4 X5 X6 5⟩, ⟨S576x1, colT X1 X2 X3 X4 X5 X6 6⟩, ⟨S576x1, colT X1 X2 X3 X4 X5 X6 7⟩]
      concatenates_S576x1_S576x1_S576x1_S576x1_S576x1_S576x1_S576x1_S576x1_S576x8_d1) transposes_S576x8_p1_0_S8x576)
    (broadcast S8x576 (extractAt ![0, 0] X7 inpos_S1x1_p0_0)))

/-! ## The selection -/

/-- How many scores of its sample lie below each score. -/
def rankB (s : FVec F S8x576 .f32) : IVec S8x576 32 :=
  multiReductionI .add [2] S8x576 (extui 32 (cmpf .olt (broadcastTo S8x576x576 (shapeCast S8x1x576 s shapeCasts_S8x576_S8x1x576) broadcasts_S8x1x576_S8x576x576)
    (broadcastTo S8x576x576 (shapeCast S8x576x1 s shapeCasts_S8x576_S8x576x1) broadcasts_S8x576x1_S8x576x576)) natLt_1_32) 0#32 reduces_S8x576x576_S8x576 rfl

def rowCount (x : IVec S8x576 1) : IVec S8x1 32 :=
  shapeCast S8x1 (multiReductionI .add [1] S8 (extui 32 x natLt_1_32) 0#32 reduces_S8x576_S8 rfl) shapeCasts_S8_S8x1

def wide (x : IVec S8x1 32) : IVec S8x576 32 := broadcastTo S8x576 x broadcasts_S8x1_S8x576

def midB (lo hi : IVec S8x1 32) : IVec S8x1 32 := shrsi (addi lo hi) (broadcast S8x1 1#32)

def enough (key : IVec S8x576 32) (lo hi : IVec S8x1 32) : IVec S8x1 1 :=
  cmpi .sge (rowCount (cmpi .sge key (wide (midB lo hi)))) (broadcast S8x1 96#32)

def bisStep (key : IVec S8x576 32) (p : IVec S8x1 32 × IVec S8x1 32) : IVec S8x1 32 × IVec S8x1 32 :=
  (select (enough key p.1 p.2) (midB p.1 p.2) p.1, select (enough key p.1 p.2) p.2 (midB p.1 p.2))

/-- The bisection's lower end after its thirty-one trips: the ninety-sixth largest key. -/
def thrB (key : IVec S8x576 32) : IVec S8x1 32 :=
  (Scf.fold (n := k0_t1_loop.trips) (fun _ p => bisStep key p) (broadcast S8x1 0#32, broadcast S8x1 1065353217#32)).1

def iotaJ : IVec S8x576 32 := iota .tc S8x576 32 [1] iota_S8x576_d1_w32

/-- One doubling step of a running sum along the rows. -/
def rotAdd (k : BitVec 32) (x : IVec S8x576 32) : IVec S8x576 32 :=
  addi x (select (cmpi .sge iotaJ (broadcast S8x576 k)) (dynamicRotate 1 k none x rotates_S8x576_d1) (broadcast S8x576 0#32))

def cums (x : IVec S8x576 32) : IVec S8x576 32 :=
  rotAdd 512#32 (rotAdd 256#32 (rotAdd 128#32 (rotAdd 64#32 (rotAdd 32#32 (rotAdd 16#32 (rotAdd 8#32 (rotAdd 4#32 (rotAdd 2#32 (rotAdd 1#32 x)))))))))

def gtB (key : IVec S8x576 32) (thr : IVec S8x1 32) : IVec S8x576 1 := cmpi .sgt key (wide thr)
def eqB (key : IVec S8x576 32) (thr : IVec S8x1 32) : IVec S8x576 1 := cmpi .eq key (wide thr)

/-- The kept entries: those above the threshold, and the first of those at it. -/
def keepB (key : IVec S8x576 32) (thr : IVec S8x1 32) : IVec S8x576 1 :=
  ori (gtB key thr) (andi (eqB key thr) (cmpi .sle (cums (extui 32 (eqB key thr) natLt_1_32)) (wide (subi (broadcast S8x1 96#32) (rowCount (gtB key thr))))))

/-- Each kept entry's place among the kept ones of its row, counted from one; zero at the others. -/
def slotB (keep : IVec S8x576 1) : IVec S576x8 32 :=
  transpose S576x8 [1, 0] (select keep (cums (extui 32 keep natLt_1_32)) (broadcast S8x576 0#32)) transposes_S8x576_p1_0_S576x8

/-- Row `t`'s kept entries, by place. -/
def pickB (slot : IVec S576x8 32) (t : Fin 8) : IVec S1x96 32 :=
  shapeCast S1x96 (multiReductionI .add [0] S96
    (select (cmpi .eq (broadcastTo S576x96 (shapeCast S576x1 (extractStridedSlice S576x1 ![0, t.val] slot (slC t)) shapeCasts_S576x1_S576x1) broadcasts_S576x1_S576x96)
        (addi (iota .tc S576x96 32 [1] iota_S576x96_d1_w32) (broadcast S576x96 1#32)))
      (iota .tc S576x96 32 [0] iota_S576x96_d0_w32) (broadcast S576x96 0#32)) 0#32 reduces_S576x96_S96 rfl) shapeCasts_S96_S1x96

def lidxB (key : IVec S8x576 32) (t : Fin 8) : IVec S1x96 32 := pickB (slotB (keepB key (thrB key))) t
def gidxB (i0 : BitVec 32) (key : IVec S8x576 32) (t : Fin 8) : IVec S1x96 32 :=
  addi (lidxB key t) (broadcast S1x96 (Scalar.muli (Scalar.addi (Scalar.muli i0 8#32) (BitVec.ofNat 32 t.val)) 576#32))

/-- The block's two outputs. -/
def lidxOut (key : IVec S8x576 32) : S8x1x96.Idx → BitVec 32 := fun y => lidxB key (y 0) (ix2 (n0 := 1) (n1 := 96) 0 (y 2))
def gidxOut (i0 : BitVec 32) (key : IVec S8x576 32) : S8x1x96.Idx → BitVec 32 := fun y => gidxB i0 key (y 0) (ix2 (n0 := 1) (n1 := 96) 0 (y 2))

end Cert.Proof.Score

end
-- ==== Proof.Pays.lean ====
/-
  The scoring block's printed values, one after another, as the plain functions of its operands.
-/
module

public import proofs.«01_k».proof.Defs
public import proofs.«01_k».proof.Proof.Gen.KernelIdeal
public import proofs.«01_k».proof.Proof.Gen.KernelIdeal.Skeleton
public import proofs.«01_k».proof.Proof.Sel

@[expose] public section

noncomputable section

namespace Cert.Proof.Score

open Cert.KernelIdeal Cert.KernelIdeal.Gen
open Idealize.ShloMosaic

variable {F : FTy → Type} [FloatOps F]
variable (X1 : Vec F S4608x768 .f32) (X2 : Vec F S77x6144 .f32) (X3 X4 : Vec F S768x256 .f32) (X5 : Vec F S1x256 .f32) (X6 : Vec F S256x1 .f32) (X7 : Vec F S1x1 .f32)

theorem col0 : k0_pay8 X1 X3 X2 X4 X5 X6 = colT X1 X2 X3 X4 X5 X6 0 := rfl
theorem col1 : k0_pay11 (k0_pay9 X1 X3 X2 X4 X5) k0_pay10 X6 = colT X1 X2 X3 X4 X5 X6 1 := rfl
theorem col2 : k0_pay12 (k0_pay6 X1 X3) (k0_pay7 X2) X4 X5 X6 = colT X1 X2 X3 X4 X5 X6 2 := rfl
theorem col3 : k0_pay13 (k0_pay6 X1 X3) (k0_pay7 X2) X4 X5 X6 = colT X1 X2 X3 X4 X5 X6 3 := rfl
theorem col4 : k0_pay16 (k0_pay14 (k0_pay6 X1 X3)) (k0_pay15 (k0_pay7 X2) X4) X5 X6 = colT X1 X2 X3 X4 X5 X6 4 := rfl
theorem col5 : k0_pay17 (k0_pay6 X1 X3) (k0_pay7 X2) X4 X5 X6 = colT X1 X2 X3 X4 X5 X6 5 := rfl

theorem pay19_eq : k0_pay19 (k0_pay6 X1 X3) (k0_pay7 X2) (colT X1 X2 X3 X4 X5 X6 0) (colT X1 X2 X3 X4 X5 X6 1) (colT X1 X2 X3 X4 X5 X6 2) (colT X1 X2 X3 X4 X5 X6 3)
    (colT X1 X2 X3 X4 X5 X6 4) (colT X1 X2 X3 X4 X5 X6 5) (k0_pay18 (k0_pay6 X1 X3) (k0_pay7 X2) X4 X5) X6 (constant S576x1 .f32 0x00000000#32) X4 X5 X6 X7
    = rankB (scoreB X1 X2 X3 X4 X5 X6 X7) := rfl

variable (key : IVec S8x576 32) (v3 : FVec F S4608x256 .f32) (v9 : FVec F S1x6144 .f32) (v23 v37 v51 v65 v79 v93 : FVec F S576x1 .f32) (v105 : FVec F S576x256 .f32)
  (v106 : Vec F S256x1 .f32) (cst_69 : FVec F S576x1 .f32) (v109 : Vec F S768x256 .f32) (v114 : Vec F S1x256 .f32) (v120 : Vec F S256x1 .f32) (v122 : Vec F S1x1 .f32)
  (lo hi : IVec S8x1 32)

theorem pay24_eq :
    k0_pay24 v3 v9 v23 v37 v51 v65 v79 v93 v105 v106 cst_69 v109 v114 v120 v122 lo hi = (bisStep (k0_pay19 v3 v9 v23 v37 v51 v65 v79 v93 v105 v106 cst_69 v109 v114 v120 v122) (lo, hi)).1 := rfl
theorem pay25_eq :
    k0_pay25 v3 v9 v23 v37 v51 v65 v79 v93 v105 v106 cst_69 v109 v114 v120 v122 lo hi = (bisStep (k0_pay19 v3 v9 v23 v37 v51 v65 v79 v93 v105 v106 cst_69 v109 v114 v120 v122) (lo, hi)).2 := rfl
theorem pay26_eq :
    k0_pay26 v3 v9 v23 v37 v51 v65 v79 v93 v105 v106 cst_69 v109 v114 v120 v122 lo = gtB (k0_pay19 v3 v9 v23 v37 v51 v65 v79 v93 v105 v106 cst_69 v109 v114 v120 v122) lo := rfl
theorem pay27_eq :
    k0_pay27 v3 v9 v23 v37 v51 v65 v79 v93 v105 v106 cst_69 v109 v114 v120 v122 lo = eqB (k0_pay19 v3 v9 v23 v37 v51 v65 v79 v93 v105 v106 cst_69 v109 v114 v120 v122) lo := rfl
theorem pay28_eq :
    k0_pay28 v3 v9 v23 v37 v51 v65 v79 v93 v105 v106 cst_69 v109 v114 v120 v122 lo = rowCount (gtB (k0_pay19 v3 v9 v23 v37 v51 v65 v79 v93 v105 v106 cst_69 v109 v114 v120 v122) lo) := rfl
theorem pay29_eq :
    k0_pay29 v3 v9 v23 v37 v51 v65 v79 v93 v105 v106 cst_69 v109 v114 v120 v122 lo = extui 32 (eqB (k0_pay19 v3 v9 v23 v37 v51 v65 v79 v93 v105 v106 cst_69 v109 v114 v120 v122) lo) natLt_1_32 := rfl

theorem pay30_eq (x : IVec S8x576 32) : k0_pay30 x iotaJ = rotAdd 32#32 (rotAdd 16#32 (rotAdd 8#32 (rotAdd 4#32 (rotAdd 2#32 (rotAdd 1#32 x))))) := rfl

theorem pay33_eq : k0_pay33 (gtB key lo) (eqB key lo) (rowCount (gtB key lo)) iotaJ (k0_pay30 (extui 32 (eqB key lo) natLt_1_32) iotaJ)
    (k0_pay31 (extui 32 (eqB key lo) natLt_1_32) iotaJ) (k0_pay32 iotaJ) 0#32 = keepB key lo := rfl

theorem pay34_eq (a b : IVec S8x576 1) (d : IVec S8x1 32) (e f : IVec S8x576 32) (g : IVec S8x576 1) :
    k0_pay34 a b d iotaJ e f g 0#32 = rotAdd 2#32 (rotAdd 1#32 (extui 32 (k0_pay33 a b d iotaJ e f g 0#32) natLt_1_32)) := rfl
theorem pay35_eq (a b : IVec S8x576 1) (d : IVec S8x1 32) (e f : IVec S8x576 32) (g : IVec S8x576 1) :
    k0_pay35 a b d iotaJ e f g 0#32 = dynamicRotate 1 4#32 none (rotAdd 2#32 (rotAdd 1#32 (extui 32 (k0_pay33 a b d iotaJ e f g 0#32) natLt_1_32))) rotates_S8x576_d1 := rfl

theorem pay37_eq (k : IVec S8x576 1) : k0_pay37 k iotaJ (k0_pay36 iotaJ (rotAdd 2#32 (rotAdd 1#32 (extui 32 k natLt_1_32)))
    (dynamicRotate 1 4#32 none (rotAdd 2#32 (rotAdd 1#32 (extui 32 k natLt_1_32))) rotates_S8x576_d1) 4#32) = slotB k := rfl

theorem fold_eq : (Scf.fold (n := k0_t1_loop.trips) (fun _ p => ((bisStep key (p.1, p.2)).1, (bisStep key (p.1, p.2)).2)) (k0_pay20, k0_pay21)).1 = thrB key := rfl

theorem iotaJ_fold : iota .tc S8x576 32 [1] iota_S8x576_d1_w32 = iotaJ := rfl
variable (k : IVec S8x576 1) (sl : IVec S576x8 32) (i0 : BitVec 32)
def rowNo : IVec S576x96 32 := iota .tc S576x96 32 [0] iota_S576x96_d0_w32
theorem rowNo_fold : iota .tc S576x96 32 [0] iota_S576x96_d0_w32 = rowNo := rfl
/-- Row `t`'s kept entries as rows of the table. -/
def gpickB (i0 : BitVec 32) (sl : IVec S576x8 32) (t : Fin 8) : IVec S1x96 32 :=
  addi (pickB sl t) (broadcast S1x96 (Scalar.muli (Scalar.addi (Scalar.muli i0 8#32) (BitVec.ofNat 32 t.val)) 576#32))
theorem pay39_eq : k0_pay39 k iotaJ (k0_pay36 iotaJ (rotAdd 2#32 (rotAdd 1#32 (extui 32 k natLt_1_32)))
    (dynamicRotate 1 4#32 none (rotAdd 2#32 (rotAdd 1#32 (extui 32 k natLt_1_32))) rotates_S8x576_d1) 4#32) = pickB (slotB k) 0 := rfl
theorem pay40_eq : k0_pay40 i0 k iotaJ (k0_pay36 iotaJ (rotAdd 2#32 (rotAdd 1#32 (extui 32 k natLt_1_32)))
    (dynamicRotate 1 4#32 none (rotAdd 2#32 (rotAdd 1#32 (extui 32 k natLt_1_32))) rotates_S8x576_d1) 4#32) = gpickB i0 (slotB k) 0 := rfl
theorem pay41_eq : k0_pay41 k iotaJ (k0_pay36 iotaJ (rotAdd 2#32 (rotAdd 1#32 (extui 32 k natLt_1_32)))
    (dynamicRotate 1 4#32 none (rotAdd 2#32 (rotAdd 1#32 (extui 32 k natLt_1_32))) rotates_S8x576_d1) 4#32) = pickB (slotB k) 1 := rfl
theorem pay42_eq : k0_pay42 i0 k iotaJ (k0_pay36 iotaJ (rotAdd 2#32 (rotAdd 1#32 (extui 32 k natLt_1_32)))
    (dynamicRotate 1 4#32 none (rotAdd 2#32 (rotAdd 1#32 (extui 32 k natLt_1_32))) rotates_S8x576_d1) 4#32) = gpickB i0 (slotB k) 1 := rfl
theorem pay45_eq : k0_pay45 rowNo (k0_pay43 k iotaJ (k0_pay36 iotaJ (rotAdd 2#32 (rotAdd 1#32 (extui 32 k natLt_1_32)))
    (dynamicRotate 1 4#32 none (rotAdd 2#32 (rotAdd 1#32 (extui 32 k natLt_1_32))) rotates_S8x576_d1) 4#32)) k0_pay44 = pickB (slotB k) 2 := rfl
theorem pay46_eq : k0_pay46 i0 rowNo (k0_pay43 k iotaJ (k0_pay36 iotaJ (rotAdd 2#32 (rotAdd 1#32 (extui 32 k natLt_1_32)))
    (dynamicRotate 1 4#32 none (rotAdd 2#32 (rotAdd 1#32 (extui 32 k natLt_1_32))) rotates_S8x576_d1) 4#32)) k0_pay44 = gpickB i0 (slotB k) 2 := rfl
theorem pay47_eq : k0_pay47 sl rowNo k0_pay38 = pickB sl 3 := rfl
theorem pay48_eq : k0_pay48 i0 sl rowNo k0_pay38 = gpickB i0 sl 3 := rfl
theorem pay49_eq : k0_pay49 sl rowNo k0_pay38 = pickB sl 4 := rfl
theorem pay50_eq : k0_pay50 i0 sl rowNo k0_pay38 = gpickB i0 sl 4 := rfl
theorem pay53_eq : k0_pay53 sl rowNo k0_pay38 = pickB sl 6 := rfl
theorem pay54_eq : k0_pay54 i0 sl rowNo k0_pay38 = gpickB i0 sl 6 := rfl
theorem pay55_eq : k0_pay55 sl rowNo k0_pay38 = pickB sl 7 := rfl
theorem pay56_eq : k0_pay56 i0 sl rowNo k0_pay38 = gpickB i0 sl 7 := rfl
theorem pay51_eq : k0_pay51 sl rowNo k0_pay38 = pickB sl 5 := rfl

theorem emb_row (t : Fin 8) (inb : ∀ a, ![t.val, 0, 0] a + S1x1x96.size a ≤ S8x1x96.size a) (z : S1x1x96.Idx) :
    (Rect.unit (s := S8x1x96) ![t.val, 0, 0] S1x1x96.size inb).emb z = ix3 (n0 := 8) (n1 := 1) (n2 := 96) t 0 (z 2) := by
  have e0 : (z 0).val = 0 := by have : (z 0).val < 1 := (z 0).isLt; omega
  have e1 : (z 1).val = 0 := by have : (z 1).val < 1 := (z 1).isLt; omega
  funext a
  apply Fin.ext
  match a with
  | 0 => show t.val + 1 * (z 0).val = t.val; omega
  | 1 => show 0 + 1 * (z 1).val = 0; omega
  | 2 => show 0 + 1 * (z 2).val = (z 2).val; omega

theorem cast_row (v : IVec S1x96 32) (z : S1x1x96.Idx) : shapeCast S1x1x96 v shapeCasts_S1x96_S1x1x96 z = v (ix2 (n0 := 1) (n1 := 96) 0 (z 2)) := by
  have e0 : (z 0).val = 0 := by have : (z 0).val < 1 := (z 0).isLt; omega
  have e1 : (z 1).val = 0 := by have : (z 1).val < 1 := (z 1).isLt; omega
  refine shapeCast_apply _ _ _ _ ?_
  rw [rowMajor_val2 _ 96 rfl, rowMajor_val3 _ 96 96 rfl rfl]
  show 0 * 96 + (z 2).val = (z 0).val * 96 + (z 1).val * 96 + (z 2).val
  omega

/-- Eight rows, one over another. -/
def rowsOut (g : Fin 8 → IVec S1x96 32) : S8x1x96.Idx → BitVec 32 := fun y => g (y 0) (ix2 (n0 := 1) (n1 := 96) 0 (y 2))

theorem piece (g : Fin 8 → IVec S1x96 32) (t : Fin 8) (inb : ∀ a, ![t.val, 0, 0] a + S1x1x96.size a ≤ S8x1x96.size a) (z : S1x1x96.Idx) :
    shapeCast S1x1x96 (g t) shapeCasts_S1x96_S1x1x96 z = rowsOut g ((Rect.unit (s := S8x1x96) ![t.val, 0, 0] S1x1x96.size inb).emb z) := by
  rw [emb_row t inb z, cast_row]; rfl

theorem mem_row (t : ℕ) (inb : ∀ a, ![t, 0, 0] a + S1x1x96.size a ≤ S8x1x96.size a) (y : S8x1x96.Idx) (h : (y 0).val = t) :
    y ∈ (Rect.unit (s := S8x1x96) ![t, 0, 0] S1x1x96.size inb).set := by
  rw [Rect.mem_set_unit]
  intro a
  have h1 : (y 1).val < 1 := (y 1).isLt
  have h2 : (y 2).val < 96 := (y 2).isLt
  match a with
  | 0 => show t ≤ (y 0).val ∧ (y 0).val < t + 1; omega
  | 1 => show 0 ≤ (y 1).val ∧ (y 1).val < 0 + 1; omega
  | 2 => show 0 ≤ (y 2).val ∧ (y 2).val < 0 + 96; omega

end Cert.Proof.Score

end
-- ==== Proof.Body.lean ====
/-
  The scoring block's run: from its nine staging buffers, the seven operands' at what they hold, it leaves in its two
  result buffers the places and the row numbers that the plain functions of the operands give.
-/
module

public import proofs.«01_k».proof.Defs
public import Idealize.ShloMosaic.Lib.Pipeline.Kit
public import Idealize.ShloMosaic.Lib.Pointwise.Reshape
public import Idealize.ShloMosaic.Lib.ViewIndex
public import Idealize.ShloMosaic.Lib.VecWindow
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Tile
public import proofs.«01_k».proof.Proof.Sel
public import proofs.«01_k».proof.Proof.Pays

@[expose] public section

noncomputable section

namespace Cert.Proof.Score

open Cert.KernelIdeal Cert.KernelIdeal.Gen
open Cert.Proof.Gather

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A staging buffer held whole. -/
abbrev ptM (c : Dev nD) {sp : Space} {S : Shape} {e : EltTy} (M : Memref sig .tc sp S e) (f : Buf (Elt F) (M.view.loc (c.tc : Thread nD τ))) : sProp 𝕄 :=
  M.view.loc (c.tc : Thread nD τ) ↦{fullShare} f

/-- A load of a whole view at the origin reads what the view reads. -/
theorem ld {sp : Space} {S : Shape} {e : EltTy} (v : View sig .tc sp S e) (f : v.ty.Contents (Elt F)) (X : S.Idx → Elt F e) (h : v.read (Elt F) f = X)
    {off : Fin S.rank → ℕ} (h0 : off = fun _ => 0) (inb : ∀ a, off a + S.size a ≤ S.size a) :
    v.readAt (Elt F) (Rect.unit (s := S) off S.size inb).toLoadRect f = X := by
  subst h; subst h0
  funext x
  exact congrArg (v.read (Elt F) f) (Rect.emb_whole_apply S x)

/-- The bisection's loop touches no memory: it returns its fold. -/
theorem loop_pure (init : IVec S8x1 32 × IVec S8x1 32) (g : IVec S8x1 32 × IVec S8x1 32 → IVec S8x1 32 × IVec S8x1 32) :
    (Scf.Loop.for k0_t1_loop k0_t1_ok init (fun _ acc => Pure.pure (g acc)) : Prog (TpuEff nD τ sig (Elt F) Λ₀ .tc) _)
      = Pure.pure (Scf.fold (n := k0_t1_loop.trips) (fun _ p => g p) init) :=
  Scf.for_pure _ _ _ _ _ _ (fun _ p => g p) fun _ _ => rfl

theorem read_rows (c : Dev nD) (v : View sig .tc .vmem S8x1x96 .i32) (f : Buf (Elt F) (v.loc (c.tc : Thread nD τ))) (g : Fin 8 → IVec S1x96 32) :
    v.read (Elt F) (v.writes (Elt F) f [
      ⟨Rect.unit (s := S8x1x96) ![7, 0, 0] S1x1x96.size inb_S8x1x96_S1x1x96_7_0_0, shapeCast S1x1x96 (g 7) shapeCasts_S1x96_S1x1x96⟩,
      ⟨Rect.unit (s := S8x1x96) ![6, 0, 0] S1x1x96.size inb_S8x1x96_S1x1x96_6_0_0, shapeCast S1x1x96 (g 6) shapeCasts_S1x96_S1x1x96⟩,
      ⟨Rect.unit (s := S8x1x96) ![5, 0, 0] S1x1x96.size inb_S8x1x96_S1x1x96_5_0_0, shapeCast S1x1x96 (g 5) shapeCasts_S1x96_S1x1x96⟩,
      ⟨Rect.unit (s := S8x1x96) ![4, 0, 0] S1x1x96.size inb_S8x1x96_S1x1x96_4_0_0, shapeCast S1x1x96 (g 4) shapeCasts_S1x96_S1x1x96⟩,
      ⟨Rect.unit (s := S8x1x96) ![3, 0, 0] S1x1x96.size inb_S8x1x96_S1x1x96_3_0_0, shapeCast S1x1x96 (g 3) shapeCasts_S1x96_S1x1x96⟩,
      ⟨Rect.unit (s := S8x1x96) ![2, 0, 0] S1x1x96.size inb_S8x1x96_S1x1x96_2_0_0, shapeCast S1x1x96 (g 2) shapeCasts_S1x96_S1x1x96⟩,
      ⟨Rect.unit (s := S8x1x96) ![1, 0, 0] S1x1x96.size inb_S8x1x96_S1x1x96_1_0_0, shapeCast S1x1x96 (g 1) shapeCasts_S1x96_S1x1x96⟩,
      ⟨Rect.unit (s := S8x1x96) ![0, 0, 0] S1x1x96.size inb_S8x1x96_S1x1x96_0_0_0, shapeCast S1x1x96 (g 0) shapeCasts_S1x96_S1x1x96⟩]) = rowsOut g := by
  funext y
  refine View.read_writes_apply_of_pieces (Val := Elt F) v f (rowsOut g) _ ?_ y ?_
  · refine List.forall_mem_cons.2 ⟨piece g 7 inb_S8x1x96_S1x1x96_7_0_0, List.forall_mem_cons.2 ⟨piece g 6 inb_S8x1x96_S1x1x96_6_0_0, List.forall_mem_cons.2 ⟨piece g 5 inb_S8x1x96_S1x1x96_5_0_0, List.forall_mem_cons.2 ⟨piece g 4 inb_S8x1x96_S1x1x96_4_0_0, List.forall_mem_cons.2 ⟨piece g 3 inb_S8x1x96_S1x1x96_3_0_0, List.forall_mem_cons.2 ⟨piece g 2 inb_S8x1x96_S1x1x96_2_0_0, List.forall_mem_cons.2 ⟨piece g 1 inb_S8x1x96_S1x1x96_1_0_0, List.forall_mem_cons.2 ⟨piece g 0 inb_S8x1x96_S1x1x96_0_0_0, fun _ h => absurd h List.not_mem_nil⟩⟩⟩⟩⟩⟩⟩⟩
  · have hy : (y 0).val < 8 := (y 0).isLt
    have hc : (y 0).val = 7 ∨ (y 0).val = 6 ∨ (y 0).val = 5 ∨ (y 0).val = 4 ∨ (y 0).val = 3 ∨ (y 0).val = 2 ∨ (y 0).val = 1 ∨ (y 0).val = 0 := by omega
    rcases hc with h | h | h | h | h | h | h | h
    · exact ⟨_, .head _, mem_row 7 inb_S8x1x96_S1x1x96_7_0_0 y h⟩
    · exact ⟨_, .tail _ (.head _), mem_row 6 inb_S8x1x96_S1x1x96_6_0_0 y h⟩
    · exact ⟨_, .tail _ (.tail _ (.head _)), mem_row 5 inb_S8x1x96_S1x1x96_5_0_0 y h⟩
    · exact ⟨_, .tail _ (.tail _ (.tail _ (.head _))), mem_row 4 inb_S8x1x96_S1x1x96_4_0_0 y h⟩
    · exact ⟨_, .tail _ (.tail _ (.tail _ (.tail _ (.head _)))), mem_row 3 inb_S8x1x96_S1x1x96_3_0_0 y h⟩
    · exact ⟨_, .tail _ (.tail _ (.tail _ (.tail _ (.tail _ (.head _))))), mem_row 2 inb_S8x1x96_S1x1x96_2_0_0 y h⟩
    · exact ⟨_, .tail _ (.tail _ (.tail _ (.tail _ (.tail _ (.tail _ (.head _)))))), mem_row 1 inb_S8x1x96_S1x1x96_1_0_0 y h⟩
    · exact ⟨_, .tail _ (.tail _ (.tail _ (.tail _ (.tail _ (.tail _ (.tail _ (.head _))))))), mem_row 0 inb_S8x1x96_S1x1x96_0_0_0 y h⟩

set_option maxHeartbeats 4000000 in
set_option maxRecDepth 16384 in
theorem body_run (c : Dev nD) (i : grid0.Coords)
    (arg1 : Memref sig .tc .vmem S4608x768 .f32) (harg1 : arg1.IsWhole) (arg2 : Memref sig .tc .vmem S77x6144 .f32) (harg2 : arg2.IsWhole) (arg3 : Memref sig .tc .vmem S768x256 .f32) (harg3 : arg3.IsWhole) (arg4 : Memref sig .tc .vmem S768x256 .f32) (harg4 : arg4.IsWhole) (arg5 : Memref sig .tc .vmem S1x256 .f32) (harg5 : arg5.IsWhole) (arg6 : Memref sig .tc .vmem S256x1 .f32) (harg6 : arg6.IsWhole) (arg7 : Memref sig .tc .vmem S1x1 .f32) (harg7 : arg7.IsWhole) (arg8 : Memref sig .tc .vmem S8x1x96 .i32) (harg8 : arg8.IsWhole) (arg9 : Memref sig .tc .vmem S8x1x96 .i32) (harg9 : arg9.IsWhole)
    (f1 : Buf (Elt F) (arg1.view.loc (c.tc : Thread nD τ))) (f2 : Buf (Elt F) (arg2.view.loc (c.tc : Thread nD τ))) (f3 : Buf (Elt F) (arg3.view.loc (c.tc : Thread nD τ)))
    (f4 : Buf (Elt F) (arg4.view.loc (c.tc : Thread nD τ))) (f5 : Buf (Elt F) (arg5.view.loc (c.tc : Thread nD τ))) (f6 : Buf (Elt F) (arg6.view.loc (c.tc : Thread nD τ)))
    (f7 : Buf (Elt F) (arg7.view.loc (c.tc : Thread nD τ))) (f8 : Buf (Elt F) (arg8.view.loc (c.tc : Thread nD τ))) (f9 : Buf (Elt F) (arg9.view.loc (c.tc : Thread nD τ)))
    (X1 : Vec F S4608x768 .f32) (X2 : Vec F S77x6144 .f32) (X3 X4 : Vec F S768x256 .f32) (X5 : Vec F S1x256 .f32) (X6 : Vec F S256x1 .f32) (X7 : Vec F S1x1 .f32)
    (h1 : arg1.view.read (Elt F) f1 = X1) (h2 : arg2.view.read (Elt F) f2 = X2) (h3 : arg3.view.read (Elt F) f3 = X3) (h4 : arg4.view.read (Elt F) f4 = X4)
    (h5 : arg5.view.read (Elt F) f5 = X5) (h6 : arg6.view.read (Elt F) f6 = X6) (h7 : arg7.view.read (Elt F) f7 = X7) :
    iprop(ptM c arg1 f1 ∗ ptM c arg2 f2 ∗ ptM c arg3 f3 ∗ ptM c arg4 f4 ∗ ptM c arg5 f5 ∗ ptM c arg6 f6 ∗ ptM c arg7 f7 ∗ ptM c arg8 f8 ∗ ptM c arg9 f9)
      ⊢ wp frame (wpE (defs₀ (F := F)) Gather.𝒱₀ (c.tc : Thread nD τ) none) Set.univ
          (cc0__score_body (F := F) i arg1 harg1 arg2 harg2 arg3 harg3 arg4 harg4 arg5 harg5 arg6 harg6 arg7 harg7 arg8 harg8 arg9 harg9 )
          fun _ => iprop(ptM c arg1 f1 ∗ ptM c arg2 f2 ∗ ptM c arg3 f3 ∗ ptM c arg4 f4 ∗ ptM c arg5 f5 ∗ ptM c arg6 f6 ∗ ptM c arg7 f7
            ∗ (∃ g8, ⌜arg8.view.read (Elt F) g8 = lidxOut (rankB (scoreB X1 X2 X3 X4 X5 X6 X7))⌝ ∗ ptM c arg8 g8)
            ∗ (∃ g9, ⌜arg9.view.read (Elt F) g9 = gidxOut (BitVec.ofNat 32 (i 0).val) (rankB (scoreB X1 X2 X3 X4 X5 X6 X7))⌝ ∗ ptM c arg9 g9)) := by
  simp only [cc0__score_body_eq_skeleton]; unfold cc0__score_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel k0_t1_body
  iintro ⟨H1, H2, H3, H4, H5, H6, H7, H8, H9⟩
  have hz : (![0, 0] : Fin 2 → ℕ) = fun _ => 0 := funext fun a => by fin_cases a <;> rfl
  have e1 : arg1.view.readAt (Elt F) (Rect.unit (s := S4608x768) ![0, 0] S4608x768.size inb_S4608x768_S4608x768_0_0).toLoadRect f1 = X1 := ld arg1.view f1 X1 h1 hz inb_S4608x768_S4608x768_0_0
  have e2 : arg2.view.readAt (Elt F) (Rect.unit (s := S77x6144) ![0, 0] S77x6144.size inb_S77x6144_S77x6144_0_0).toLoadRect f2 = X2 := ld arg2.view f2 X2 h2 hz inb_S77x6144_S77x6144_0_0
  have e3 : arg3.view.readAt (Elt F) (Rect.unit (s := S768x256) ![0, 0] S768x256.size inb_S768x256_S768x256_0_0).toLoadRect f3 = X3 := ld arg3.view f3 X3 h3 hz inb_S768x256_S768x256_0_0
  have e4 : arg4.view.readAt (Elt F) (Rect.unit (s := S768x256) ![0, 0] S768x256.size inb_S768x256_S768x256_0_0).toLoadRect f4 = X4 := ld arg4.view f4 X4 h4 hz inb_S768x256_S768x256_0_0
  have e5 : arg5.view.readAt (Elt F) (Rect.unit (s := S1x256) ![0, 0] S1x256.size inb_S1x256_S1x256_0_0).toLoadRect f5 = X5 := ld arg5.view f5 X5 h5 hz inb_S1x256_S1x256_0_0
  have e6 : arg6.view.readAt (Elt F) (Rect.unit (s := S256x1) ![0, 0] S256x1.size inb_S256x1_S256x1_0_0).toLoadRect f6 = X6 := ld arg6.view f6 X6 h6 hz inb_S256x1_S256x1_0_0
  have e7 : arg7.view.readAt (Elt F) (Rect.unit (s := S1x1) ![0, 0] S1x1.size inb_S1x1_S1x1_0_0).toLoadRect f7 = X7 := ld arg7.view f7 X7 h7 hz inb_S1x1_S1x1_0_0
  sl_exec
  simp only [e1, e2, e3, e4, e5, e6, e7, loop_pure]
  sl_exec
  sl_step
  simp only [col0, col1, col2, col3, col4, col5, pay24_eq, pay25_eq, pay26_eq, pay27_eq, pay28_eq, pay29_eq]
  rw [iotaJ_fold, show body_run.sl.cst_69 = constant (F := F) S576x1 .f32 0x00000000#32 from rfl]
  simp only [pay19_eq, fold_eq, pay33_eq, pay34_eq, pay35_eq]
  try rw [rowNo_fold]
  rw [pay37_eq, pay39_eq, pay40_eq, pay41_eq, pay42_eq, pay45_eq, pay46_eq, pay47_eq, pay48_eq, pay49_eq, pay50_eq, pay51_eq, pay53_eq, pay54_eq, pay55_eq, pay56_eq]
  generalize rankB (scoreB X1 X2 X3 X4 X5 X6 X7) = key
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _
    isplitr
    swap
    · iexact H8
    ipureintro
    exact read_rows c arg8.view f8 (lidxB key)
  · iexists _
    isplitr
    swap
    · iexact H9
    ipureintro
    exact read_rows c arg9.view f9 (gidxB _ key)

end Cert.Proof.Score

end
-- ==== Proof.Region.lean ====
/-
  The scoring pipeline as one step of the host program: what its windows' buffers hold at each point, the block's run at
  every point, and the step itself, from the unscoped buffers at one valuation to the same buffers at the valuation that
  has the two results.
-/
module

public import proofs.«01_k».proof.Defs
public import Idealize.ShloMosaic.Lib.Pipeline.Kit
public import Idealize.ShloMosaic.Lib.Pipeline.Frame
public import Idealize.ShloMosaic.Lib.Pipeline.Regions
public import Idealize.ShloMosaic.Lib.Pipeline.RegionsLoop
public import Idealize.ShloMosaic.Lib.Pipeline.Value
public import Idealize.ShloMosaic.Lib.Tactic
public import proofs.«01_k».proof.Proof.Gen.KernelIdeal
public import proofs.«01_k».proof.Proof.Gen.KernelIdeal.Launch
public import proofs.«01_k».proof.Proof.Gen.KernelIdeal.Points
public import proofs.«01_k».proof.Proof.Tile
public import proofs.«01_k».proof.Proof.Call
public import proofs.«01_k».proof.Proof.Sel
public import proofs.«01_k».proof.Proof.Body

@[expose] public section

noncomputable section

namespace Cert.Proof.Score

open Cert.KernelIdeal Cert.KernelIdeal.Gen
open Cert.Proof.Gather

open Idealize.ShloMosaic
open Idealize.ShloMosaic.SparseCore (S V T)
open Idealize.ShloMosaic.SparseCore.Cfg (HIx)
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What a device's unscoped buffers hold. -/
abbrev Vals (F : FTy → Type) (c : Dev nD) : Type := (b : Ref sig .tc) → Buf (Elt F) ((c.tc : Thread nD τ).loc b)

/-! ## The windows' blocks -/

variable {c : Dev nD}

def in0 (W : Vals F c) (t : Fin cfg0.N) : Vec F S4608x768 .f32 := ((cfg0.win 0).blk t).view.read (Elt F) (W (arrRef spec0 0))
def in1 (W : Vals F c) (t : Fin cfg0.N) : Vec F S77x6144 .f32 := ((cfg0.win 1).blk t).view.read (Elt F) (W (arrRef spec0 1))
def in2 (W : Vals F c) : Vec F S768x256 .f32 := ((cfg0.win 2).blk t0_0).view.read (Elt F) (W (arrRef spec0 2))
def in3 (W : Vals F c) : Vec F S768x256 .f32 := ((cfg0.win 3).blk t0_0).view.read (Elt F) (W (arrRef spec0 3))
def in4 (W : Vals F c) : Vec F S1x256 .f32 := ((cfg0.win 4).blk t0_0).view.read (Elt F) (W (arrRef spec0 4))
def in5 (W : Vals F c) : Vec F S256x1 .f32 := ((cfg0.win 5).blk t0_0).view.read (Elt F) (W (arrRef spec0 5))
def in6 (W : Vals F c) : Vec F S1x1 .f32 := ((cfg0.win 6).blk t0_0).view.read (Elt F) (W (arrRef spec0 6))

/-- The ranks of the scores of point `t`'s eight samples. -/
def keyAt (W : Vals F c) (t : Fin cfg0.N) : IVec S8x576 32 :=
  rankB (scoreB (in0 W t) (in1 W t) (in2 W) (in3 W) (in4 W) (in5 W) (in6 W))

def out7 (W : Vals F c) (t : Fin cfg0.N) : S8x1x96.Idx → BitVec 32 := lidxOut (keyAt W t)
def out8 (W : Vals F c) (t : Fin cfg0.N) : S8x1x96.Idx → BitVec 32 := gidxOut (BitVec.ofNat 32 (grid0.coords t 0).val) (keyAt W t)

/-- The pairs a wait may have recorded before the first call of the SparseCores. -/
def below (c : Dev nD) : Set (SemLoc sig × HIx 1) := {p | (K (F := F)).lev ((T c : Thread nD τ), p.1) p.2 ≤ 0}

def dat0 (W : Vals F c) : Dat τ (Elt F) (HIx 1) ℕ UU ℕ cfg0 c where
  A w := W (arrRef spec0 w)
  after w t := match w with
    | ⟨0, _⟩ => in0 W t
    | ⟨1, _⟩ => in1 W t
    | ⟨2, _⟩ => in2 W
    | ⟨3, _⟩ => in3 W
    | ⟨4, _⟩ => in4 W
    | ⟨5, _⟩ => in5 W
    | ⟨6, _⟩ => in6 W
    | ⟨7, _⟩ => out7 W t
    | ⟨8, _⟩ => out8 W t
  Φ _ := iprop(emp)
  q := Pipeline.shareOf spec0
  owed _ := (K (F := F)).Otc c 0
  recorded _ := below (F := F) c

abbrev pdats (W : (c : Dev nD) → Vals F c) : (p : Fin 1) → (c : Dev nD) → Dat τ (Elt F) (HIx 1) ℕ UU ℕ (Pipeline.pin (pcfgs (F := F)) adm p) c
  | 0 => fun c => dat0 (W c)

/-! ## What the body finds -/

theorem before_0 (W : Vals F c) (t : Fin cfg0.N) (d) : (dat0 W).before 0 t d = in0 W t := by
  rw [Dat.before_fetched _ _ _ (fetch0_0 t)]; rfl
theorem before_1 (W : Vals F c) (t : Fin cfg0.N) (d) : (dat0 W).before 1 t d = in1 W t := by
  rw [Dat.before_fetched _ _ _ (fetch0_1 t)]; rfl

theorem point_cases (t : Fin cfg0.N) : t = t0_0 ∨ ¬ t.val % 8 = 0 := by
  have h : t.val < 8 := t.isLt
  by_cases h0 : t.val % 8 = 0
  · exact .inl (Fin.ext (by show t.val = 0; omega))
  · exact .inr h0

theorem before_2 (W : Vals F c) (t : Fin cfg0.N) (d) : (dat0 W).before 2 t d = in2 W := by
  rcases point_cases t with rfl | h
  · rw [Dat.before_fetched _ _ _ ((fetch0_2 _).2 rfl)]; rfl
  · rw [Dat.before_unfetched_in _ _ rfl _ (Bool.eq_false_iff.2 fun e => h ((fetch0_2 t).1 e)) (fun _ => rfl)]; rfl
theorem before_3 (W : Vals F c) (t : Fin cfg0.N) (d) : (dat0 W).before 3 t d = in3 W := by
  rcases point_cases t with rfl | h
  · rw [Dat.before_fetched _ _ _ ((fetch0_3 _).2 rfl)]; rfl
  · rw [Dat.before_unfetched_in _ _ rfl _ (Bool.eq_false_iff.2 fun e => h ((fetch0_3 t).1 e)) (fun _ => rfl)]; rfl
theorem before_4 (W : Vals F c) (t : Fin cfg0.N) (d) : (dat0 W).before 4 t d = in4 W := by
  rcases point_cases t with rfl | h
  · rw [Dat.before_fetched _ _ _ ((fetch0_4 _).2 rfl)]; rfl
  · rw [Dat.before_unfetched_in _ _ rfl _ (Bool.eq_false_iff.2 fun e => h ((fetch0_4 t).1 e)) (fun _ => rfl)]; rfl
theorem before_5 (W : Vals F c) (t : Fin cfg0.N) (d) : (dat0 W).before 5 t d = in5 W := by
  rcases point_cases t with rfl | h
  · rw [Dat.before_fetched _ _ _ ((fetch0_5 _).2 rfl)]; rfl
  · rw [Dat.before_unfetched_in _ _ rfl _ (Bool.eq_false_iff.2 fun e => h ((fetch0_5 t).1 e)) (fun _ => rfl)]; rfl
theorem before_6 (W : Vals F c) (t : Fin cfg0.N) (d) : (dat0 W).before 6 t d = in6 W := by
  rcases point_cases t with rfl | h
  · rw [Dat.before_fetched _ _ _ ((fetch0_6 _).2 rfl)]; rfl
  · rw [Dat.before_unfetched_in _ _ rfl _ (Bool.eq_false_iff.2 fun e => h ((fetch0_6 t).1 e)) (fun _ => rfl)]; rfl

/-- A whole staging buffer owned is the buffer held at contents that it reads. -/
theorem owns_whole_eq {sp : Space} {S : Shape} {e : EltTy} (M : Memref sig .tc sp S e) (hM : M.IsWhole) (X : S.Idx → Elt F e) :
    (owns (Ix := HIx 1) (Name := ℕ) (U := UU) (Lvl := ℕ) (c.tc : Thread nD τ) M fullShare X : sProp 𝕄)
      = iprop(∃ f, ⌜M.view.read (Elt F) f = X⌝ ∗ ptM c M f) := by
  unfold owns; simp only [hM.set_eq_univ]

theorem after_0 (W : Vals F c) (t : Fin cfg0.N) : (dat0 W).after 0 t = in0 W t := by dsimp only [dat0]
theorem after_1 (W : Vals F c) (t : Fin cfg0.N) : (dat0 W).after 1 t = in1 W t := by dsimp only [dat0]
theorem after_2 (W : Vals F c) (t : Fin cfg0.N) : (dat0 W).after 2 t = in2 W := by dsimp only [dat0]
theorem after_3 (W : Vals F c) (t : Fin cfg0.N) : (dat0 W).after 3 t = in3 W := by dsimp only [dat0]
theorem after_4 (W : Vals F c) (t : Fin cfg0.N) : (dat0 W).after 4 t = in4 W := by dsimp only [dat0]
theorem after_5 (W : Vals F c) (t : Fin cfg0.N) : (dat0 W).after 5 t = in5 W := by dsimp only [dat0]
theorem after_6 (W : Vals F c) (t : Fin cfg0.N) : (dat0 W).after 6 t = in6 W := by dsimp only [dat0]
theorem after_7 (W : Vals F c) (t : Fin cfg0.N) : (dat0 W).after 7 t = out7 W t := by dsimp only [dat0]
theorem after_8 (W : Vals F c) (t : Fin cfg0.N) : (dat0 W).after 8 t = out8 W t := by dsimp only [dat0]

/-- The block's run at point `t`, on the windows' buffers. -/
theorem body_at (W : Vals F c) (t : Fin cfg0.N) :
    iprop((∃ d, owns (c.tc : Thread nD τ) (st0_0 t) fullShare ((dat0 W).before 0 t d))
        ∗ (∃ d, owns (c.tc : Thread nD τ) (st0_1 t) fullShare ((dat0 W).before 1 t d))
        ∗ (∃ d, owns (c.tc : Thread nD τ) (st0_2 t) fullShare ((dat0 W).before 2 t d))
        ∗ (∃ d, owns (c.tc : Thread nD τ) (st0_3 t) fullShare ((dat0 W).before 3 t d))
        ∗ (∃ d, owns (c.tc : Thread nD τ) (st0_4 t) fullShare ((dat0 W).before 4 t d))
        ∗ (∃ d, owns (c.tc : Thread nD τ) (st0_5 t) fullShare ((dat0 W).before 5 t d))
        ∗ (∃ d, owns (c.tc : Thread nD τ) (st0_6 t) fullShare ((dat0 W).before 6 t d))
        ∗ (∃ d, owns (c.tc : Thread nD τ) (st0_7 t) fullShare ((dat0 W).before 7 t d))
        ∗ (∃ d, owns (c.tc : Thread nD τ) (st0_8 t) fullShare ((dat0 W).before 8 t d)))
      ⊢ wp frame (wpE (defs₀ (F := F)) 𝒱₀ (c.tc : Thread nD τ) none) Set.univ (bodyAt0 (F := F) t) fun _ => (iprop(owns (c.tc : Thread nD τ) (st0_0 t) fullShare ((dat0 W).after 0 t)
        ∗ owns (c.tc : Thread nD τ) (st0_1 t) fullShare ((dat0 W).after 1 t)
        ∗ owns (c.tc : Thread nD τ) (st0_2 t) fullShare ((dat0 W).after 2 t)
        ∗ owns (c.tc : Thread nD τ) (st0_3 t) fullShare ((dat0 W).after 3 t)
        ∗ owns (c.tc : Thread nD τ) (st0_4 t) fullShare ((dat0 W).after 4 t)
        ∗ owns (c.tc : Thread nD τ) (st0_5 t) fullShare ((dat0 W).after 5 t)
        ∗ owns (c.tc : Thread nD τ) (st0_6 t) fullShare ((dat0 W).after 6 t)
        ∗ owns (c.tc : Thread nD τ) (st0_7 t) fullShare ((dat0 W).after 7 t)
        ∗ owns (c.tc : Thread nD τ) (st0_8 t) fullShare ((dat0 W).after 8 t)) : sProp 𝕄) := by
  rw [after_0, after_1, after_2, after_3, after_4, after_5, after_6, after_7, after_8]
  rw [owns_whole_eq (st0_0 t) (hstage0_0 ((cfg0.slots t 0).cast nbuf0_0)) (in0 W t)]
  rw [owns_whole_eq (st0_1 t) (hstage0_1 ((cfg0.slots t 1).cast nbuf0_1)) (in1 W t)]
  rw [owns_whole_eq (st0_2 t) (hstage0_2 ((cfg0.slots t 2).cast nbuf0_2)) (in2 W)]
  rw [owns_whole_eq (st0_3 t) (hstage0_3 ((cfg0.slots t 3).cast nbuf0_3)) (in3 W)]
  rw [owns_whole_eq (st0_4 t) (hstage0_4 ((cfg0.slots t 4).cast nbuf0_4)) (in4 W)]
  rw [owns_whole_eq (st0_5 t) (hstage0_5 ((cfg0.slots t 5).cast nbuf0_5)) (in5 W)]
  rw [owns_whole_eq (st0_6 t) (hstage0_6 ((cfg0.slots t 6).cast nbuf0_6)) (in6 W)]
  rw [owns_whole_eq (st0_7 t) (hstage0_7 ((cfg0.slots t 7).cast nbuf0_7)) (out7 W t)]
  rw [owns_whole_eq (st0_8 t) (hstage0_8 ((cfg0.slots t 8).cast nbuf0_8)) (out8 W t)]
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H0 := (Entails.of_eq (owns_whole_eq (st0_0 t) (hstage0_0 ((cfg0.slots t 0).cast nbuf0_0)) ((dat0 W).before 0 t d0))) $$ H0
  icases H0 with ⟨%f0, %h0, H0⟩
  ihave H1 := (Entails.of_eq (owns_whole_eq (st0_1 t) (hstage0_1 ((cfg0.slots t 1).cast nbuf0_1)) ((dat0 W).before 1 t d1))) $$ H1
  icases H1 with ⟨%f1, %h1, H1⟩
  ihave H2 := (Entails.of_eq (owns_whole_eq (st0_2 t) (hstage0_2 ((cfg0.slots t 2).cast nbuf0_2)) ((dat0 W).before 2 t d2))) $$ H2
  icases H2 with ⟨%f2, %h2, H2⟩
  ihave H3 := (Entails.of_eq (owns_whole_eq (st0_3 t) (hstage0_3 ((cfg0.slots t 3).cast nbuf0_3)) ((dat0 W).before 3 t d3))) $$ H3
  icases H3 with ⟨%f3, %h3, H3⟩
  ihave H4 := (Entails.of_eq (owns_whole_eq (st0_4 t) (hstage0_4 ((cfg0.slots t 4).cast nbuf0_4)) ((dat0 W).before 4 t d4))) $$ H4
  icases H4 with ⟨%f4, %h4, H4⟩
  ihave H5 := (Entails.of_eq (owns_whole_eq (st0_5 t) (hstage0_5 ((cfg0.slots t 5).cast nbuf0_5)) ((dat0 W).before 5 t d5))) $$ H5
  icases H5 with ⟨%f5, %h5, H5⟩
  ihave H6 := (Entails.of_eq (owns_whole_eq (st0_6 t) (hstage0_6 ((cfg0.slots t 6).cast nbuf0_6)) ((dat0 W).before 6 t d6))) $$ H6
  icases H6 with ⟨%f6, %h6, H6⟩
  ihave H7 := (Entails.of_eq (owns_whole_eq (st0_7 t) (hstage0_7 ((cfg0.slots t 7).cast nbuf0_7)) ((dat0 W).before 7 t d7))) $$ H7
  icases H7 with ⟨%f7, %h7, H7⟩
  ihave H8 := (Entails.of_eq (owns_whole_eq (st0_8 t) (hstage0_8 ((cfg0.slots t 8).cast nbuf0_8)) ((dat0 W).before 8 t d8))) $$ H8
  icases H8 with ⟨%f8, %h8, H8⟩
  rw [before_0] at h0
  rw [before_1] at h1
  rw [before_2] at h2
  rw [before_3] at h3
  rw [before_4] at h4
  rw [before_5] at h5
  rw [before_6] at h6
  ihave H := (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) f0 f1 f2 f3 f4 f5 f6 f7 f8 (in0 W t) (in1 W t) (in2 W) (in3 W) (in4 W) (in5 W) (in6 W) h0 h1 h2 h3 h4 h5 h6) $$ [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iapply (wp_wand frame (wpE (defs₀ (F := F)) 𝒱₀ (c.tc : Thread nD τ) none) Set.univ) $$ H
  iintro %_ ⟨H0, H1, H2, H3, H4, H5, H6, ⟨%g7, %e7, H7⟩, ⟨%g8, %e8, H8⟩⟩
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists g7; isplitr; · ipureintro; exact e7
    iexact H7
  iexists g8; isplitr; · ipureintro; exact e8
  iexact H8

set_option maxRecDepth 8000 in
theorem body_obligation (W : Vals F c) : BodyObligation (dat0 W) (defs₀ (F := F)) 𝒱₀ none Set.univ := fun t => by
  rw [bigSep_W0, bigSep_W0]
  show iprop(emp ∗ (dat0 W).owesAt none t.castSucc ∗ (∃ d, owns (c.tc : Thread nD τ) (st0_0 t) fullShare ((dat0 W).before 0 t d))
        ∗ (∃ d, owns (c.tc : Thread nD τ) (st0_1 t) fullShare ((dat0 W).before 1 t d))
        ∗ (∃ d, owns (c.tc : Thread nD τ) (st0_2 t) fullShare ((dat0 W).before 2 t d))
        ∗ (∃ d, owns (c.tc : Thread nD τ) (st0_3 t) fullShare ((dat0 W).before 3 t d))
        ∗ (∃ d, owns (c.tc : Thread nD τ) (st0_4 t) fullShare ((dat0 W).before 4 t d))
        ∗ (∃ d, owns (c.tc : Thread nD τ) (st0_5 t) fullShare ((dat0 W).before 5 t d))
        ∗ (∃ d, owns (c.tc : Thread nD τ) (st0_6 t) fullShare ((dat0 W).before 6 t d))
        ∗ (∃ d, owns (c.tc : Thread nD τ) (st0_7 t) fullShare ((dat0 W).before 7 t d))
        ∗ (∃ d, owns (c.tc : Thread nD τ) (st0_8 t) fullShare ((dat0 W).before 8 t d)))
      ⊢ wp frame (wpE (defs₀ (F := F)) 𝒱₀ (c.tc : Thread nD τ) none) Set.univ (bodyAt0 (F := F) t) fun _ => (iprop(emp ∗ (dat0 W).owesAt none t.castSucc ∗ owns (c.tc : Thread nD τ) (st0_0 t) fullShare ((dat0 W).after 0 t)
        ∗ owns (c.tc : Thread nD τ) (st0_1 t) fullShare ((dat0 W).after 1 t)
        ∗ owns (c.tc : Thread nD τ) (st0_2 t) fullShare ((dat0 W).after 2 t)
        ∗ owns (c.tc : Thread nD τ) (st0_3 t) fullShare ((dat0 W).after 3 t)
        ∗ owns (c.tc : Thread nD τ) (st0_4 t) fullShare ((dat0 W).after 4 t)
        ∗ owns (c.tc : Thread nD τ) (st0_5 t) fullShare ((dat0 W).after 5 t)
        ∗ owns (c.tc : Thread nD τ) (st0_6 t) fullShare ((dat0 W).after 6 t)
        ∗ owns (c.tc : Thread nD τ) (st0_7 t) fullShare ((dat0 W).after 7 t)
        ∗ owns (c.tc : Thread nD τ) (st0_8 t) fullShare ((dat0 W).after 8 t)) : sProp 𝕄)
  iintro ⟨-, HO, H⟩
  ihave H := body_at W t $$ H
  iapply (wp_wand frame (wpE (defs₀ (F := F)) 𝒱₀ (c.tc : Thread nD τ) none) Set.univ) $$ H
  iintro %_ H
  isplitr; · iempintro
  isplitl [HO]; · iexact HO
  iexact H

/-! ## The step -/

variable (m : (c : Dev nD) → Vals F c)

/-- The buffers after the scoring: the two results at what the pipeline wrote to them. -/
def after0 (c : Dev nD) : Vals F c :=
  Function.update (Function.update (m c) (arrRef spec0 7) ((dat0 (m c)).arrAt 7 cfg0.N)) (arrRef spec0 8) ((dat0 (m c)).arrAt 8 cfg0.N)

theorem after0_of_ne (c : Dev nD) (b : Ref sig .tc) (h7 : b ≠ arrRef spec0 7) (h8 : b ≠ arrRef spec0 8) : after0 m c b = m c b := by
  unfold after0; rw [Function.update_of_ne h8, Function.update_of_ne h7]
theorem after0_7 (c : Dev nD) : after0 m c (arrRef spec0 7) = (dat0 (m c)).arrAt 7 cfg0.N := by
  unfold after0; rw [Function.update_of_ne (by decide), Function.update_self]
theorem after0_8 (c : Dev nD) : after0 m c (arrRef spec0 8) = (dat0 (m c)).arrAt 8 cfg0.N := by
  unfold after0; rw [Function.update_self]

theorem after0_arr (c : Dev nD) (w : Fin cfg0.W) : (dat0 (m c)).arrAt w cfg0.N = after0 m c (arrRef spec0 w) := by
  have hin (w : Fin cfg0.W) (hw : (cfg0.win w).isOut = false) (h7 : arrRef spec0 w ≠ arrRef spec0 7) (h8 : arrRef spec0 w ≠ arrRef spec0 8) :
      (dat0 (m c)).arrAt w cfg0.N = after0 m c (arrRef spec0 w) :=
    ((dat0 (m c)).arrAt_in w hw _).trans (after0_of_ne m c _ h7 h8).symm
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact hin 4 rfl (by decide) (by decide)
  | ⟨5, _⟩ => exact hin 5 rfl (by decide) (by decide)
  | ⟨6, _⟩ => exact hin 6 rfl (by decide) (by decide)
  | ⟨7, _⟩ => exact (after0_7 m c).symm
  | ⟨8, _⟩ => exact (after0_8 m c).symm

/-- What the host program owes the SparseCores' call from the start, with the pairs that its waits have recorded at no level above. -/
def owing (c : Dev nD) : sProp 𝕄 :=
  iprop(∃ Wt, ⌜(K (F := F)).WBelow (T c) Wt 0⌝ ∗ owes (T c : Thread nD τ) ((K (F := F)).Otc c 0) Wt)

theorem Otc_none (c : Dev nD) (g : GSem nD τ sig) : (K (F := F)).Otc c 0 g none = 0 := by
  by_contra h
  have := (K (F := F)).lev_of_Otc_pos (Nat.pos_of_ne_zero h)
  rw [SparseCore.Cfg.lev_none] at this
  exact absurd this (by omega)

def reg0 : Pipeline.RegionSeg (pcfgs (F := F)) adm (pdats m) none defs₀ 𝒱₀ (K (F := F)).L (K (F := F)).lev 0 where
  win := winFacts₀0
  block_pos := block_pos0
  stage_whole := stage_whole0
  K := PEmpty
  osem k := k.elim
  ho := Pipeline.OwnSemFacts.none _
  hbody c := (body_obligation (m c)).loose
  hwaits c := Pipeline.cellsWaits_intro _ (pdats m) none 0 c fun w s t => (K (F := F)).mayWait_none _ (Otc_none c)
  pre c := iprop(unscopedBufs c (m c) ∗ owing (F := F) c)
  post c := iprop(unscopedBufs c (after0 m c) ∗ owing (F := F) c)
  X _ := iprop(emp)
  Y _ := iprop(emp)
  Z c := Pipeline.unscopedRest spec0 c (m c)
  hentry c := by
    rw [Pipeline.ownSems0_none]
    have hsplit := Pipeline.arrays_of_unscopedBufs_shared (pcfgs (F := F)) adm (pdats m) (p := 0) winFacts₀0 sharedIn0 arr_whole0 c (fun _ _ => rfl) (m c) fun _ => rfl
    unfold owing
    iintro ⟨⟨Hub, ⟨%Wt, %hW, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wt; isplitr; · ipureintro; exact fun p h => Or.inl (hW p h)
      iexact HO
    isplitr; · iempintro
    iexact Hr
  hin c := by iintro -; iempintro
  hout c := by
    rw [Pipeline.ownSems0_none, scopedRest0_eq]
    iintro -; isplitr; · iempintro
    isplitr <;> iempintro
  hexit c := by
    have hjoin := Pipeline.unscopedBufs_of_arrays_shared (pcfgs (F := F)) adm winFacts₀0 sharedIn0 arr_whole0 c (pdats m) (fun _ _ => rfl) (m c) (after0 m c)
      ((pdats m 0 c).arrAt · cfg0.N) (after0_arr m c) fun b hb => after0_of_ne m c b
        (fun e => hb (e ▸ Finset.mem_image_of_mem (arrRef spec0) (Finset.mem_univ (7 : Fin 9)))) fun e => hb (e ▸ Finset.mem_image_of_mem (arrRef spec0) (Finset.mem_univ (8 : Fin 9)))
    unfold Pipeline.Dat.owesAt Pipeline.owesWithin
    iintro ⟨Ha, ⟨%Wt, %hW, HO⟩, -, Hr⟩
    imodintro
    isplitl [Ha Hr]
    · iapply hjoin; isplitl [Ha]; · iexact Ha
      iexact Hr
    unfold owing
    iexists Wt
    isplitr
    · ipureintro
      exact fun p h => (hW h).elim id fun ⟨w, s, e⟩ => by subst e; exact Nat.le_refl 0
    iexact HO

end Cert.Proof.Score

end
-- ==== Proof.Run.lean ====
/-
  The whole program's run: the host's reshapes and transposes, the scoring pipeline, the gather call; every array's final
  contents and every counter back at zero. Stated over any float values.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Reshape
public import Idealize.ShloMosaic.Lib.ViewIndex
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Tile
public import proofs.«01_k».proof.Proof.Task
public import proofs.«01_k».proof.Proof.Call
public import proofs.«01_k».proof.Proof.Region

@[expose] public section

noncomputable section

namespace Cert.Proof.Gather

open Cert.KernelIdeal Cert.KernelIdeal.Gen
open Cert.Proof.Score

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.StableHlo (held wp_hlo_within)
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The host operations and the arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v50' : DevRef τ sig := Proc.devRef .tc (main_v5_0 : Ref sig .tc)
abbrev v51' : DevRef τ sig := Proc.devRef .tc (main_v5_1 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)

abbrev op0 : HloOp τ sig (Elt F) := StableHlo.reshape main_arg0 main_v0 (rfl : (.f32 : EltTy) = .f32) shapeCasts_S64x576x768_S36864x768
abbrev op1 : HloOp τ sig (Elt F) := StableHlo.unary main_arg1 main_v1 ((transpose S77x64x768 [1, 0, 2] · transposes_S64x77x768_S77x64x768_1_0_2) : (⟨S64x77x768, .f32⟩ : BufTy).Contents (Elt F) → (⟨S77x64x768, .f32⟩ : BufTy).Contents (Elt F))
abbrev op2 : HloOp τ sig (Elt F) := StableHlo.reshape main_v1 main_v2 (rfl : (.f32 : EltTy) = .f32) shapeCasts_S77x64x768_S77x49152
abbrev op3 : HloOp τ sig (Elt F) := StableHlo.reshape main_arg3 main_v3 (rfl : (.f32 : EltTy) = .f32) shapeCasts_S256_S1x256
abbrev op4 : HloOp τ sig (Elt F) := StableHlo.reshape main_arg5 main_v4 (rfl : (.f32 : EltTy) = .f32) shapeCasts_S1_S1x1
abbrev op6 : HloOp τ sig (Elt F) := StableHlo.reshape main_arg6 main_v6 (rfl : (.f32 : EltTy) = .f32) shapeCasts_S1x1x768_S1x768
abbrev op8 : HloOp τ sig (Elt F) := StableHlo.unary main_v7 main_v8 ((transpose S64x97x768 [1, 0, 2] · transposes_S97x64x768_S64x97x768_1_0_2) : (⟨S97x64x768, .f32⟩ : BufTy).Contents (Elt F) → (⟨S64x97x768, .f32⟩ : BufTy).Contents (Elt F))
abbrev op9 : HloOp τ sig (Elt F) := StableHlo.reshape main_v5_0 main_v9 (rfl : (.i32 : EltTy) = .i32) shapeCasts_S64x1x96_S64x96

/-- The buffers @main holds whole. -/
abbrev SA : Finset (DevRef τ sig) := Pipeline.ucRefs τ sig

theorem sub0 : (op0 (F := F)).bufs ⊆ SA := show ({a0', v0'} : Finset (DevRef τ sig)) ⊆ SA by decide
theorem sub1 : (op1 (F := F)).bufs ⊆ SA := show ({a1', v1'} : Finset (DevRef τ sig)) ⊆ SA by decide
theorem sub2 : (op2 (F := F)).bufs ⊆ SA := show ({v1', v2'} : Finset (DevRef τ sig)) ⊆ SA by decide
theorem sub3 : (op3 (F := F)).bufs ⊆ SA := show ({a3', v3'} : Finset (DevRef τ sig)) ⊆ SA by decide
theorem sub4 : (op4 (F := F)).bufs ⊆ SA := show ({a5', v4'} : Finset (DevRef τ sig)) ⊆ SA by decide
theorem sub6 : (op6 (F := F)).bufs ⊆ SA := show ({a6', v6'} : Finset (DevRef τ sig)) ⊆ SA by decide
theorem sub8 : (op8 (F := F)).bufs ⊆ SA := show ({v7', v8'} : Finset (DevRef τ sig)) ⊆ SA by decide
theorem sub9 : (op9 (F := F)).bufs ⊆ SA := show ({v50', v9'} : Finset (DevRef τ sig)) ⊆ SA by decide

/-! ## The contents along the run -/

def V0 (d : Dev nD) : Valuation τ sig (Elt F) := fun b => m (d, b)
def V5 (d : Dev nD) : Valuation τ sig (Elt F) := (op4 (F := F)).result ((op3 (F := F)).result ((op2 (F := F)).result ((op1 (F := F)).result ((op0 (F := F)).result (V0 m d)))))
def vals (d : Dev nD) : Vals F d := fun b => V5 m d (Proc.devRef .tc b)
def V6 (d : Dev nD) : Valuation τ sig (Elt F) :=
  Function.update (Function.update (V5 m d) v50' ((dat0 (vals m d)).arrAt 7 cfg0.N)) v51' ((dat0 (vals m d)).arrAt 8 cfg0.N)
def V7 (d : Dev nD) : Valuation τ sig (Elt F) := (op6 (F := F)).result (V6 m d)

def tabOf (d : Dev nD) : Buf (Elt F) (tabLoc d) := V7 m d v0'
def numOf (d : Dev nD) : Buf (Elt F) (numLoc d) := V7 m d v51'
def regOf (d : Dev nD) : Buf (Elt F) (regLoc d) := V7 m d v6'
def out0 (d : Dev nD) : Buf (Elt F) (outLoc d) := V7 m d v7'

abbrev resOut (d : Dev nD) : Buf (Elt F) (outLoc d) := out₁ (tabOf m) (numOf m) (regOf m) d

def V8 (d : Dev nD) : Valuation τ sig (Elt F) := Function.update (V7 m d) v7' (resOut m d)
def V10 (d : Dev nD) : Valuation τ sig (Elt F) := (op9 (F := F)).result ((op8 (F := F)).result (V8 m d))

theorem V6_50 (d : Dev nD) : V6 m d v50' = (dat0 (vals m d)).arrAt 7 cfg0.N := by
  unfold V6; rw [Function.update_of_ne (by decide), Function.update_self]
theorem V6_51 (d : Dev nD) : V6 m d v51' = (dat0 (vals m d)).arrAt 8 cfg0.N := by
  unfold V6; rw [Function.update_self]
theorem V6_of_ne (d : Dev nD) (b : DevRef τ sig) (h7 : b ≠ v50') (h8 : b ≠ v51') : V6 m d b = V5 m d b := by
  unfold V6; rw [Function.update_of_ne h8, Function.update_of_ne h7]

theorem after_vals (d : Dev nD) : after0 (vals m) d = fun b => V6 m d (Proc.devRef .tc b) := by
  funext b
  by_cases h8 : b = main_v5_1
  · subst h8; exact (after0_8 (vals m) d).trans (V6_51 m d).symm
  by_cases h7 : b = main_v5_0
  · subst h7; exact (after0_7 (vals m) d).trans (V6_50 m d).symm
  exact (after0_of_ne (vals m) d b h7 h8).trans
    (V6_of_ne m d _ (fun e => h7 (Proc.devRef_injective _ e)) (fun e => h8 (Proc.devRef_injective _ e))).symm

theorem held_V5 (d : Dev nD) :
    (held (T d) SA ((op4 (F := F)).result ((op3 (F := F)).result ((op2 (F := F)).result ((op1 (F := F)).result ((op0 (F := F)).result (V0 m d)))))) : sProp 𝕄)
      = unscopedBufs d (vals m d) := (Pipeline.unscopedBufs_held d (V5 m d)).symm
theorem held_V6 (d : Dev nD) : (unscopedBufs d (after0 (vals m) d) : sProp 𝕄) = held (T d) SA (V6 m d) := by
  rw [after_vals]; exact Pipeline.unscopedBufs_held d (V6 m d)

/-! ## The scoring pipeline as a step of @main -/

/-- The pipeline's call in its own signature, and lifted into the program's. -/
abbrev callEntry : Prog (TpuEff nD τ sig (Elt F) (ΛP (F := F)) .tc) PUnit := .op (.customCall (Pipeline.entry 0) ()) fun u => .ret u

theorem lift_entry : (SparseCore.liftProg (Q := 1) (callEntry (F := F)) : Prog (TpuEff nD τ sig (Elt F) (SparseCore.Sig (ΛP (F := F)) 1) .tc) PUnit)
    = Prog.lift (.customCall (SparseCore.inner (Pipeline.entry 0)) ()) := rfl

theorem pre_eq (d : Dev nD) : (reg0 (vals m)).pre d = iprop(unscopedBufs d (vals m d) ∗ owing (F := F) d) := by unfold reg0; rfl
theorem post_eq (d : Dev nD) : (reg0 (vals m)).post d = iprop(unscopedBufs d (after0 (vals m) d) ∗ owing (F := F) d) := by unfold reg0; rfl

theorem region_wp (d : Dev nD) (Q : PUnit → sProp 𝕄) :
    iprop((iprop(boundary (d.tc : Thread nD τ) ∗ unscopedBufs d (after0 (vals m) d) ∗ owing (F := F) d) -∗ Q ⟨⟩)
        ∗ boundary (d.tc : Thread nD τ) ∗ (unscopedBufs d (vals m d) ∗ owing (F := F) d) ∗ levAts (K (F := F)).L (K (F := F)).lev ∗ ghost0 (F := F) d)
      ⊢ wp frame (wpE ((K (F := F)).defs (D (F := F))) 𝒱 (SparseCore.T d) none) Set.univ
          (Prog.lift (.customCall (SparseCore.inner (Pipeline.entry 0)) ())) Q := by
  rw [← lift_entry]
  refine BIBase.Entails.trans ?_ ((K (F := F)).wp_liftProg (D (F := F)) 𝒱 (SparseCore.T d) Set.univ none callEntry Q)
  have hwp := Pipeline.RegionSeg.wp (pcfgs (F := F)) adm (pdats (vals m)) none phinj EP defs₀ 𝒱₀ (K (F := F)).L (K (F := F)).lev (reg0 (vals m)) d none (fun _ h => nomatch h) (fun u => .ret u) Q
  rw [pre_eq, post_eq] at hwp
  refine BIBase.Entails.trans ?_ hwp
  unfold ghost0
  iintro ⟨HQ, Hb, Hp, Hl, Hg, Ht⟩
  isplitl [HQ]
  · iintro H; rw [wp_ret]; imodintro; iapply HQ; iexact H
  isplitl [Hb]; · iexact Hb
  isplitl [Hp]; · iexact Hp
  isplitl [Hl]; · iexact Hl
  isplitl [Hg] <;> iassumption

/-! ## @main on the TensorCore -/

abbrev PM : (K (F := F)).Pay (nD := nD) (Val := Elt F) (Name := ℕ) (U := UU) := P (tabOf m) (numOf m) (regOf m) (out0 m)

/-- What @main leaves the claims: every array at its final contents. -/
abbrev FIN (d : Dev nD) : sProp 𝕄 := held (T d) SA (V10 m d)

/-- The gather call's four arrays. -/
abbrev SC4 : Finset (DevRef τ sig) := {v0', v51', v6', v7'}

theorem held_SC4 (d : Dev nD) (W : Valuation τ sig (Elt F)) :
    (held (T d) SC4 W : sProp 𝕄) = iprop((tabLoc d ↦{fullShare} W v0') ∗ (numLoc d ↦{fullShare} W v51') ∗ (regLoc d ↦{fullShare} W v6') ∗ (outLoc d ↦{fullShare} W v7')) := by
  unfold held SC4
  rw [SparseCore.bigSep_insert' (by decide), SparseCore.bigSep_insert' (by decide), SparseCore.bigSep_insert' (by decide), bigSep_singleton]

theorem sub_SC4 : SC4 ⊆ SA := by decide

theorem held_V7 (d : Dev nD) :
    (held (T d) SA ((op6 (F := F)).result (V6 m d)) : sProp 𝕄)
      = iprop(((tabLoc d ↦{fullShare} tabOf m d) ∗ (numLoc d ↦{fullShare} numOf m d) ∗ (regLoc d ↦{fullShare} regOf m d) ∗ (outLoc d ↦{fullShare} out0 m d))
          ∗ held (T d) (SA \ SC4) (V7 m d)) := by
  show held (T d) SA (V7 m d) = _
  unfold tabOf numOf regOf out0
  rw [StableHlo.held_sub_split _ sub_SC4, held_SC4]

theorem held_V8 (d : Dev nD) :
    (held (T d) SA (V8 m d) : sProp 𝕄)
      = iprop(((tabLoc d ↦{fullShare} tabOf m d) ∗ (numLoc d ↦{fullShare} numOf m d) ∗ (regLoc d ↦{fullShare} regOf m d) ∗ (outLoc d ↦{fullShare} resOut m d))
          ∗ held (T d) (SA \ SC4) (V7 m d)) := by
  have h : ∀ b, b ≠ v7' → V8 m d b = V7 m d b := fun b hb => Function.update_of_ne hb _ _
  rw [StableHlo.held_sub_split _ sub_SC4, held_SC4, h v0' (by decide), h v51' (by decide), h v6' (by decide),
    show V8 m d v7' = resOut m d from Function.update_self _ _ _,
    StableHlo.held_congr _ (V := V8 m d) (V' := V7 m d) fun b hb => h b fun e => (Finset.mem_sdiff.mp hb).2 (e ▸ by decide)]
  rfl

theorem hmain (κ : GSem nD τ sig → ℕ) (d : Dev nD) :
    iprop((K (F := F)).ctx EH (PM m) κ ∗ (K (F := F)).tcSt EH d 0 ∗ (K (F := F)).tcRes m ρ d ∗ ghost0 (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) SA (V0 m d) from Pipeline.unscopedBufs_held d (V0 m d)]
  simp only [main, wp_bind, wp_pure]
  iintro ⟨#Hctx, Hst, ⟨Hb, Hheld, Hts, -⟩, Hg⟩
  iapply (wp_hlo_within 𝒱 (SparseCore.T d) none Set.univ (op := op0) (S := SA) sub0 (V := V0 m d)) $$ [Hb Hheld]
  · isplitl [Hb] <;> iassumption
  iintro ⟨Hb, Hheld⟩
  rw [wp_ret]; imodintro
  iapply (wp_hlo_within 𝒱 (SparseCore.T d) none Set.univ (op := op1) (S := SA) sub1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := SA) sub2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := SA) sub3 (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := SA) sub4 (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  ihave Hub := (Entails.of_eq (held_V5 (F := F) m d)) $$ Hheld
  ihave Hst2 := (Entails.of_eq (show ((K (F := F)).tcSt EH d 0 : sProp 𝕄) = iprop(owing (F := F) d ∗ _) from rfl)) $$ Hst
  icases Hst2 with ⟨HO, Hst⟩
  ihave #Hl := ((K (F := F)).ctx_levAts (EH := EH) (P := PM m) κ) $$ Hctx
  iapply (region_wp m d _)
  isplitr [Hb Hub HO Hg]
  swap
  · isplitl [Hb]; · iexact Hb
    isplitl [Hub HO]
    · isplitl [Hub]; · iexact Hub
      iexact HO
    isplitr; · iexact Hl
    iexact Hg
  iintro ⟨Hb, Hub, HO⟩
  ihave Hheld := (Entails.of_eq (held_V6 (F := F) m d)) $$ Hub
  ihave Hst := (Entails.of_eq (show iprop(owing (F := F) d ∗ _) = ((K (F := F)).tcSt EH d 0 : sProp 𝕄) from rfl)) $$ [HO Hst]
  · isplitl [HO] <;> iassumption
  iapply (wp_hlo_within 𝒱 (SparseCore.T d) none Set.univ (op := op6) (S := SA) sub6 (V := V6 m d)) $$ [Hb Hheld]
  · isplitl [Hb] <;> iassumption
  iintro ⟨Hb, Hheld⟩
  rw [wp_ret]; imodintro
  ihave Hh := (Entails.of_eq (held_V7 (F := F) m d)) $$ Hheld
  icases Hh with ⟨⟨Hv0, Hv5, Hv6, Hv7⟩, Hrest⟩
  ihave Hs := (st_intro (tabOf m) (numOf m) (regOf m) (out0 m) d) $$ [Hv0 Hv5 Hv6 Hv7]
  · isplitr [Hv7]
    · isplitl [Hv0]; · iexact Hv0
      isplitl [Hv5]; · iexact Hv5
      iexact Hv6
    iexact Hv7
  icases Hs with ⟨Hd, Hs⟩
  iapply ((K (F := F)).wp_run (D (F := F)) 𝒱 (EH := EH) (P := PM m) κ d 0) $$ [Hst Hs Hd Hb Hrest Hts]
  isplitr; · iexact Hctx
  isplitl [Hst]; · iexact Hst
  isplitl [Hs]; · iexact Hs
  iintro ⟨Hst, Hdn⟩
  ihave Hdn := (dn_elim (tabOf m) (numOf m) (regOf m) (out0 m) d) $$ [Hd Hdn]
  · isplitl [Hd] <;> iassumption
  icases Hdn with ⟨⟨Hv0, Hv5, Hv6⟩, Hv7⟩
  ihave Hheld := (Entails.of_eq (held_V8 (F := F) m d).symm) $$ [Hv0 Hv5 Hv6 Hv7 Hrest]
  · isplitr [Hrest]
    · isplitl [Hv0]; · iexact Hv0
      isplitl [Hv5]; · iexact Hv5
      isplitl [Hv6]; · iexact Hv6
      iexact Hv7
    iexact Hrest
  iapply (wp_hlo_within 𝒱 (SparseCore.T d) none Set.univ (op := op8) (S := SA) sub8 (V := V8 m d)) $$ [Hb Hheld]
  · isplitl [Hb] <;> iassumption
  iintro ⟨Hb, Hheld⟩
  rw [wp_ret]; imodintro
  iapply (wp_hlo_within 𝒱 (SparseCore.T d) none Set.univ (op := op9) (S := SA) sub9 (V := (op8 (F := F)).result (V8 m d))) $$ [Hb Hheld]
  · isplitl [Hb] <;> iassumption
  iintro ⟨Hb, Hheld⟩
  rw [wp_ret]; imodintro
  imodintro
  isplitl [Hst]; · iexact Hst
  isplitl [Hheld]; · iexact Hheld
  isplitl [Hb] <;> iassumption

/-! ## The run -/

def fq (d : Dev nD) (s' : Phys nD τ sig (Elt F)) : Prop := ∀ b, b ∈ SA → s'.mem.mem (d, b) = V10 m d b

/-- What one array's whole points-to says of the final memory. -/
theorem read_off (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, -, -⟩
  ipureintro; exact funext fun i => h1 i (Finset.mem_univ i)

theorem hfin (d : Dev nD) (s' : Phys nD τ sig (Elt F)) : iprop(FIN m d ∗ SI s') ⊢ (⌜fq m d s'⌝ : sProp 𝕄) := by
  unfold fq
  refine BIBase.Entails.trans ?_ (pure_forall).2
  refine sProp.forall_intro fun b => ?_
  by_cases hb : b ∈ SA
  · refine BIBase.Entails.trans ?_ ((read_off s' (d, b) (V10 m d b)).trans (Laws.pure_mono fun h _ => h))
    exact sep_mono (bigSep_elim (Φ := fun b => (((T d : Thread nD τ).1, b) : Loc nD τ sig) ↦{fullShare} V10 m d b) hb) .rfl
  · exact BIClass.pure_intro fun h => absurd h hb

def QC : PUnit × MemSt nD τ sig (Elt F) → Prop := fun r => (∀ c : Dev nD, ∀ b, b ∈ SA → r.2.mem (c, b) = V10 m c b) ∧ r.2.sem = fun _ => 0

theorem run_main [∀ e, Nonempty (Elt F e)] (hnum : ∀ (d : Dev nD) (j : S64x1x96.Idx), (numOf m d j : BitVec 32).toNat < 36864) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ facts hnum)
    (fun q _ => match q with | 0 => SparseCore.Cfg.VecSplit.of_plain (vecSplit _ _ _ _))
    m ρ main (fun d => ghost0 (F := F) d) (FIN m) (u₀ (F := F)) (sep_elim_left.trans (hu₀ _ _ _ _)) (hmain m ρ) (fq m) (hfin m) (QC m) (fun _ h hz => ⟨h, hz⟩)

end Cert.Proof.Gather

end
-- ==== Proof.Value.lean ====
/-
  The rows: the gather call's rows beside the register row are the reference's gathered rows beside it, index by index.
-/
module

public import Idealize.ShloMosaic.Lib.Pipeline.Value
public import Idealize.ShloMosaic.Lib.ReduceAll
public import Idealize.ShloMosaic.Lib.Pointwise.Reshape
public import proofs.«01_k».proof.Proof.Gen.ReferenceIdeal
public import proofs.«01_k».proof.Proof.Tile

@[expose] public section

noncomputable section

namespace Cert.Proof.Rows

open Cert.ReferenceIdeal Cert.ReferenceIdeal.Gen
open Idealize.ShloMosaic

/-! ## The reference's gather -/

abbrev gd := gather_S64x576x768_S64x96x1_S64x96x768_2_1_0_0_1_2_11768

/-- The gather at `(b, p, j)`: the sample's row of the index at `(b, p)`, read signed and clamped. -/
theorem gather_at {α : Type} (x : S64x576x768.Idx → α) (idx : IVec S64x96x1 32) (y : S64x96x768.Idx) :
    Host.gather gd x idx y
      = x (ix3 (n0 := 64) (n1 := 576) (n2 := 768) (y 0) ⟨min (idx (ix3 (n0 := 64) (n1 := 96) (n2 := 1) (y 0) (y 1) 0)).toInt.toNat 575, by omega⟩ (y 2)) := by
  unfold Host.gather
  refine congrArg x (funext fun a => Fin.ext ?_)
  show gd.start y idx a + gd.batchCoord y a + gd.offCoord y a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gd.operandBatchingDims from List.mem_singleton.mpr rfl)]
    rfl
  · rw [GatherDims.batchCoord_eq_zero _ _ _ (show (1 : Fin 3) ∉ gd.operandBatchingDims by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hs : gd.siIdx y ⟨List.idxOf (1 : Fin 3) gd.startIndexMap, List.idxOf_lt_length_iff.2 (List.mem_singleton.mpr rfl)⟩
        = ix3 (n0 := 64) (n1 := 96) (n2 := 1) (y 0) (y 1) 0 := by
      funext b; refine Fin.ext ?_
      match b with
      | ⟨0, _⟩ => rfl
      | ⟨1, _⟩ => rfl
      | ⟨2, _⟩ => rfl
    rw [hs]
    rfl
  · rw [GatherDims.batchCoord_eq_zero _ _ _ (show (2 : Fin 3) ∉ gd.operandBatchingDims by decide)]
    unfold GatherDims.start GatherDims.offCoord
    rw [dif_neg (show ¬ (2 : Fin 3) ∈ gd.startIndexMap by decide), dif_pos (show (2 : Fin 3) ∈ gd.sKept by decide)]
    simp only [Nat.zero_add]
    rfl

/-! ## Indices in range -/

/-- The indices as the gather takes them: a negative one counted from the end. -/
def wrapI (I : IVec S64x96x1 32) : IVec S64x96x1 32 :=
  select (cmpi .slt I (broadcastInDim S64x96x1 ![] bcast_S_S64x96x1 (constantI S_ 32 0#32))) (addi I (broadcastInDim S64x96x1 ![] bcast_S_S64x96x1 (constantI S_ 32 576#32))) I

/-- Where an index is in range. -/
def inRange (J : IVec S64x96x1 32) : IVec S64x96x1 1 :=
  andi (cmpi .sge J (broadcastInDim S64x96x1 ![] bcast_S_S64x96x1 (constantI S_ 32 0#32)))
    (cmpi .sle J (broadcastInDim S64x96x1 ![0, 1, 2] bcast_S1x1x1_S64x96x1_0_1_2 (broadcastInDim S1x1x1 ![2] bcast_S1_S1x1x1_2 (constantI S1 32 575#32))))

/-- The reference's first result, of the dense rows, the selected positions and the register row. -/
def refRows (x : FVec Ideal S64x576x768 .f32) (I : IVec S64x96x1 32) (r : FVec Ideal S1x1x768 .f32) : FVec Ideal S64x97x768 .f32 :=
  concatenate S64x97x768 1 [⟨S64x96x768, select (broadcastInDim S64x96x768 ![0, 1] bcast_S64x96_S64x96x768_0_1
      (Host.reduce IntOp.andi (inRange (wrapI I)) (constantI S_ 1 1#1) reducesTo_S64x96x1_S64x96_d2 h_S_))
      (Host.gather gd x (wrapI I)) (broadcastInDim S64x96x768 ![] bcast_S_S64x96x768 (constant S_ .f32 0x7FC00000#32))⟩,
    ⟨S64x1x768, broadcastInDim S64x1x768 ![0, 1, 2] bcast_S1x1x768_S64x1x768_0_1_2 r⟩] concatenates_S64x96x768_S64x1x768_S64x97x768_d1

theorem toInt_of_lt (v : BitVec 32) (h : v.toNat < 576) : v.toInt = v.toNat := by
  rw [BitVec.toInt_eq_toNat_cond]; split <;> omega

theorem slt_zero (v : BitVec 32) (h : v.toNat < 576) : IntOp.cmpi .slt v 0#32 = 0#1 := by
  show BitVec.ofBool (v.slt 0#32) = 0#1
  rw [BitVec.slt_eq_decide, toInt_of_lt v h]
  have : ¬ ((v.toNat : ℤ) < (0#32).toInt) := by simp
  rw [decide_eq_false this]; rfl

theorem sge_zero (v : BitVec 32) (h : v.toNat < 576) : IntOp.cmpi .sge v 0#32 = 1#1 := by
  show BitVec.ofBool ((0#32).sle v) = 1#1
  rw [BitVec.sle_eq_decide, toInt_of_lt v h]
  have : (0#32).toInt ≤ (v.toNat : ℤ) := by simp
  rw [decide_eq_true this]; rfl

theorem sle_last (v : BitVec 32) (h : v.toNat < 576) : IntOp.cmpi .sle v 575#32 = 1#1 := by
  show BitVec.ofBool (v.sle 575#32) = 1#1
  rw [BitVec.sle_eq_decide, toInt_of_lt v h]
  have e : (575#32).toInt = 575 := by decide
  have : (v.toNat : ℤ) ≤ (575#32).toInt := by rw [e]; omega
  rw [decide_eq_true this]; rfl

theorem wrapI_eq (I : IVec S64x96x1 32) (hI : ∀ i, (I i).toNat < 576) : wrapI I = I := by
  funext i
  show (if IntOp.cmpi .slt (I i) 0#32 = 1#1 then _ else I i) = I i
  rw [slt_zero _ (hI i)]
  exact if_neg (by decide)

theorem inRange_eq (J : IVec S64x96x1 32) (hJ : ∀ i, (J i).toNat < 576) (i : S64x96x1.Idx) : inRange J i = 1#1 := by
  show IntOp.andi (IntOp.cmpi .sge (J i) 0#32) (IntOp.cmpi .sle (J i) 575#32) = 1#1
  rw [sge_zero _ (hJ i), sle_last _ (hJ i)]; rfl

/-- With every index in range, the rows are the gathered ones. -/
theorem refRows_eq (x : FVec Ideal S64x576x768 .f32) (I : IVec S64x96x1 32) (hI : ∀ i, (I i).toNat < 576) (r : FVec Ideal S1x1x768 .f32) :
    refRows x I r = concatenate S64x97x768 1 [⟨S64x96x768, Host.gather gd x I⟩,
      ⟨S64x1x768, broadcastInDim S64x1x768 ![0, 1, 2] bcast_S1x1x768_S64x1x768_0_1_2 r⟩] concatenates_S64x96x768_S64x1x768_S64x97x768_d1 := by
  unfold refRows
  rw [wrapI_eq I hI]
  refine congrArg (fun z : FVec Ideal S64x96x768 .f32 => concatenate S64x97x768 1 [⟨S64x96x768, z⟩,
      ⟨S64x1x768, broadcastInDim S64x1x768 ![0, 1, 2] bcast_S1x1x768_S64x1x768_0_1_2 r⟩] concatenates_S64x96x768_S64x1x768_S64x97x768_d1) (funext fun y => ?_)
  have h : ∀ i, Host.reduce IntOp.andi (inRange I) (constantI S_ 1 1#1) reducesTo_S64x96x1_S64x96_d2 h_S_ i = 1#1 := fun i =>
    Host.reduce_andi_one (inRange I) (constantI S_ 1 1#1) reducesTo_S64x96x1_S64x96_d2 h_S_ i rfl (inRange_eq I hI)
  generalize Host.reduce IntOp.andi (inRange I) (constantI S_ 1 1#1) reducesTo_S64x96x1_S64x96_d2 h_S_ = z at h
  have e : broadcastInDim S64x96x768 ![0, 1] bcast_S64x96_S64x96x768_0_1 z y = 1#1 := h _
  exact if_pos e

/-! ## The equation -/

theorem rows_pos (b : Fin 64) (n : Fin 576) (k : Fin 768) (r : Fin 36864) (hr : r.val = b.val * 576 + n.val) :
    (Cert.KernelIdeal.S64x576x768.rowMajor (ix3 b n k)).val = (Cert.KernelIdeal.S36864x768.rowMajor (ix2 r k)).val := by
  refine (rowMajor_val3 _ 442368 768 (show (576 * 768 : ℕ) = 442368 by norm_num) rfl).trans (Eq.trans ?_ (rowMajor_val2 _ 768 rfl).symm)
  show b.val * 442368 + n.val * 768 + k.val = r.val * 768 + k.val
  omega

theorem reg_pos (k : Fin 768) : (Cert.KernelIdeal.S1x1x768.rowMajor (ix3 (0 : Fin 1) (0 : Fin 1) k)).val = (Cert.KernelIdeal.S1x768.rowMajor (ix2 (0 : Fin 1) k)).val := by
  refine (rowMajor_val3 _ 768 768 (show (1 * 768 : ℕ) = 768 by norm_num) rfl).trans (Eq.trans ?_ (rowMajor_val2 _ 768 rfl).symm)
  show 0 * 768 + 0 * 768 + k.val = 0 * 768 + k.val
  omega

theorem swap_at {α : Type} (out : Cert.KernelIdeal.S97x64x768.Idx → α) (j : Cert.KernelIdeal.S64x97x768.Idx) :
    transpose Cert.KernelIdeal.S64x97x768 [1, 0, 2] out Cert.KernelIdeal.Gen.transposes_S97x64x768_S64x97x768_1_0_2 j
      = out (ix3 (n0 := 97) (n1 := 64) (n2 := 768) (j 1) (j 0) (j 2)) :=
  transpose_apply _ _ _ _ _ (fun b => match b with | 0 => rfl | 1 => rfl | 2 => rfl)

/-- The transpose of what the call leaves is the gather beside the register row. -/
theorem rows_eq (x0 : FVec Ideal S64x576x768 .f32) (I : IVec S64x96 32) (hI : ∀ i, (I i).toNat < 576) (r : FVec Ideal S1x1x768 .f32)
    (num : Cert.KernelIdeal.S64x1x96.Idx → BitVec 32) (hn : ∀ (b : Fin 64) (p : Fin 96), (num (ix3 b (0 : Fin 1) p)).toNat = (I (ix2 b p)).toNat + b.val * 576) :
    transpose Cert.KernelIdeal.S64x97x768 [1, 0, 2]
        (Gather.outOf (F := Ideal) (shapeCast Cert.KernelIdeal.S36864x768 x0 Cert.KernelIdeal.Gen.shapeCasts_S64x576x768_S36864x768) num
          (shapeCast Cert.KernelIdeal.S1x768 r Cert.KernelIdeal.Gen.shapeCasts_S1x1x768_S1x768)) Cert.KernelIdeal.Gen.transposes_S97x64x768_S64x97x768_1_0_2
      = refRows x0 (broadcastInDim S64x96x1 ![0, 1] bcast_S64x96_S64x96x1_0_1 I) r := by
  have hb : ∀ (b : Fin 64) (p : Fin 96), broadcastInDim S64x96x1 ![0, 1] bcast_S64x96_S64x96x1_0_1 I (ix3 (n0 := 64) (n1 := 96) (n2 := 1) b p 0) = I (ix2 b p) := fun b p =>
    broadcastInDim_apply _ _ _ _ (ix2 (n0 := 64) (n1 := 96) b p) (fun a => match a with | 0 => rfl | 1 => rfl)
  have hJ : ∀ i, (broadcastInDim S64x96x1 ![0, 1] bcast_S64x96_S64x96x1_0_1 I i).toNat < 576 := fun i => hI _
  rw [refRows_eq _ _ hJ]
  funext j
  let b : Fin 64 := j 0
  let q : Fin 97 := j 1
  let k : Fin 768 := j 2
  refine (swap_at _ j).trans ?_
  by_cases hp : q.val < 96
  · refine (dif_pos (show ((ix3 q b k) 0).val < 96 from hp)).trans (Eq.symm ?_)
    refine (concatenate_pair_apply_left (s₁ := S64x96x768) (s₂ := S64x1x768) (1 : Fin 3) _ _ _ j rfl
      (ix3 b ⟨q.val, hp⟩ k) (fun b => match b with | 0 => rfl | 1 => rfl | 2 => rfl)).trans ?_
    refine (gather_at _ _ _).trans (Eq.symm ?_)
    have hi := hI (ix2 b ⟨q.val, hp⟩)
    have hnn := hn b ⟨q.val, hp⟩
    have e : (min (broadcastInDim S64x96x1 ![0, 1] bcast_S64x96_S64x96x1_0_1 I (ix3 (n0 := 64) (n1 := 96) (n2 := 1) b ⟨q.val, hp⟩ 0)).toInt.toNat 575) = (I (ix2 b ⟨q.val, hp⟩)).toNat := by
      rw [hb, toInt_of_lt _ hi]; simp; omega
    refine (shapeCast_apply _ _ _ (ix3 (n0 := 64) (n1 := 576) (n2 := 768) b ⟨(I (ix2 b ⟨q.val, hp⟩)).toNat, hi⟩ k) (rows_pos b _ k _ ?_)).trans ?_
    · show (num (ix3 b (0 : Fin 1) ⟨q.val, hp⟩)).toNat % 36864 = _
      rw [hnn, Nat.mod_eq_of_lt (by omega), Nat.add_comm]
    · exact congrArg (fun z : Fin 576 => x0 (ix3 b z k)) (Fin.ext e.symm)
  · refine (dif_neg (show ¬ ((ix3 q b k) 0).val < 96 from hp)).trans (Eq.symm ?_)
    refine (concatenate_pair_apply_right (s₁ := S64x96x768) (s₂ := S64x1x768) (1 : Fin 3) _ _ _ j rfl rfl
      (ix3 (n0 := 64) (n1 := 1) (n2 := 768) b 0 k) (fun b hb => match b, hb with | 0, _ => rfl | 1, hb => absurd rfl hb | 2, _ => rfl)
      (by show 0 + 96 = q.val; have := q.isLt; omega)).trans ?_
    refine (broadcastInDim_apply _ _ _ _ (ix3 (n0 := 1) (n1 := 1) (n2 := 768) 0 0 k) (fun a => match a with | 0 => rfl | 1 => rfl | 2 => rfl)).trans (Eq.symm ?_)
    exact shapeCast_apply _ _ _ (ix3 (n0 := 1) (n1 := 1) (n2 := 768) 0 0 k) (reg_pos k)

end Cert.Proof.Rows

end
-- ==== Proof.Count.lean ====
/-
  The arithmetic of the selection on one row of keys, in natural numbers: the bisection for the ninety-sixth largest key,
  the entries kept by that threshold, and the places of the kept entries. Nothing here mentions the program.
-/
module

public import Mathlib.Data.Fintype.Card
public import Mathlib.Data.Fintype.BigOperators
public import Mathlib.Algebra.BigOperators.Fin
public import Mathlib.Order.Interval.Finset.Fin
public import Mathlib.Tactic.Ring
public import Mathlib.Tactic.NormNum
public import Idealize.ShloMosaic.PureOps.ShapeOps
public import Idealize.ShloMosaic.Lib.SortFacts

@[expose] public section

namespace Cert.Proof.Count

open Finset

variable {n : ℕ}

/-- How many entries satisfy `p`. -/
def cnt (p : Fin n → Prop) [DecidablePred p] : ℕ := (univ.filter p).card

theorem cnt_le (p : Fin n → Prop) [DecidablePred p] : cnt p ≤ n := by
  unfold cnt; exact (card_le_univ _).trans (by simp)
theorem cnt_mono {p q : Fin n → Prop} [DecidablePred p] [DecidablePred q] (h : ∀ i, p i → q i) : cnt p ≤ cnt q :=
  card_le_card fun i => by simpa using h i
theorem cnt_congr {p q : Fin n → Prop} [DecidablePred p] [DecidablePred q] (h : ∀ i, p i ↔ q i) : cnt p = cnt q := by
  unfold cnt; congr 1; ext i; simpa using h i

/-! ## The bisection -/

/-- One trip: the middle becomes the lower end if at least ninety-six keys reach it, the upper end otherwise. -/
def step (key : Fin n → ℕ) (p : ℕ × ℕ) : ℕ × ℕ :=
  if 96 ≤ cnt (fun j => (p.1 + p.2) / 2 ≤ key j) then ((p.1 + p.2) / 2, p.2) else (p.1, (p.1 + p.2) / 2)

/-- At least ninety-six keys reach the lower end, and fewer reach the upper one. -/
def Inv (key : Fin n → ℕ) (p : ℕ × ℕ) : Prop :=
  p.1 < p.2 ∧ 96 ≤ cnt (fun j => p.1 ≤ key j) ∧ cnt (fun j => p.2 ≤ key j) < 96

theorem step_inv (key : Fin n → ℕ) (p : ℕ × ℕ) (h : Inv key p) : Inv key (step key p) := by
  obtain ⟨h1, h2, h3⟩ := h
  unfold step
  by_cases hc : 96 ≤ cnt (fun j => (p.1 + p.2) / 2 ≤ key j)
  · rw [if_pos hc]; exact ⟨by show (p.1 + p.2) / 2 < p.2; omega, hc, h3⟩
  · rw [if_neg hc]
    refine ⟨?_, h2, by simpa using hc⟩
    show p.1 < (p.1 + p.2) / 2
    by_contra hn
    have : (p.1 + p.2) / 2 = p.1 := by omega
    rw [this] at hc
    exact hc h2

theorem step_width (key : Fin n → ℕ) (p : ℕ × ℕ) (k : ℕ) (h : Inv key p) (hk : p.2 - p.1 ≤ 2 ^ k) :
    (step key p).2 - (step key p).1 ≤ 2 ^ (k - 1) := by
  have h1 := h.1
  have hs := (step_inv key p h).1
  have e : k = 0 ∨ 2 ^ k = 2 * 2 ^ (k - 1) := by
    rcases k with _ | k
    · exact .inl rfl
    · exact .inr (by rw [Nat.add_sub_cancel]; ring)
  rcases e with rfl | e
  · unfold step at hs ⊢
    split at hs <;> simp only [pow_zero] at hk ⊢ <;> simp_all <;> omega
  · unfold step
    split <;> simp only [] <;> omega

theorem step_le (key : Fin n → ℕ) (p : ℕ × ℕ) (M : ℕ) (h : p.1 ≤ M ∧ p.2 ≤ M) : (step key p).1 ≤ M ∧ (step key p).2 ≤ M := by
  unfold step
  split <;> simp only [] <;> omega

theorem iter_inv (key : Fin n → ℕ) (p : ℕ × ℕ) (k : ℕ) (h : Inv key p) (hk : p.2 - p.1 ≤ 2 ^ k) (m : ℕ) :
    Inv key ((step key)^[m] p) ∧ ((step key)^[m] p).2 - ((step key)^[m] p).1 ≤ 2 ^ (k - m) := by
  induction m with
  | zero => exact ⟨h, hk⟩
  | succ m ih =>
    rw [Function.iterate_succ_apply']
    exact ⟨step_inv _ _ ih.1, by have := step_width key _ _ ih.1 ih.2; rwa [Nat.sub_sub] at this⟩

theorem iter_le (key : Fin n → ℕ) (p : ℕ × ℕ) (M : ℕ) (h : p.1 ≤ M ∧ p.2 ≤ M) (m : ℕ) :
    ((step key)^[m] p).1 ≤ M ∧ ((step key)^[m] p).2 ≤ M := by
  induction m with
  | zero => exact h
  | succ m ih => rw [Function.iterate_succ_apply']; exact step_le _ _ _ ih

/-- The lower end after thirty-one trips. -/
def thr (key : Fin n → ℕ) : ℕ := ((step key)^[31] (0, 1065353217)).1

/-- At least ninety-six keys reach the threshold, and fewer exceed it. -/
theorem thr_spec (key : Fin n → ℕ) (hn : 96 ≤ n) (hk : ∀ j, key j < 1065353217) :
    96 ≤ cnt (fun j => thr key ≤ key j) ∧ cnt (fun j => thr key < key j) < 96 := by
  have h0 : Inv key (0, 1065353217) := by
    refine ⟨by norm_num, ?_, ?_⟩
    · show 96 ≤ cnt _
      unfold cnt; rw [filter_true_of_mem (fun i _ => Nat.zero_le _)]; simpa using hn
    · show cnt _ < 96
      unfold cnt; rw [filter_false_of_mem (fun i _ => Nat.not_le.2 (hk i))]; simp
  obtain ⟨⟨h1, h2, h3⟩, h4⟩ := iter_inv key _ 30 h0 (by norm_num) 31
  have e : ((step key)^[31] (0, 1065353217)).2 = thr key + 1 := by
    unfold thr
    have : 2 ^ (30 - 31) = 1 := by norm_num
    omega
  refine ⟨h2, ?_⟩
  rw [e] at h3
  exact h3

/-! ## The kept entries -/

/-- An entry is kept if its key exceeds the threshold, or reaches it among the first that fill ninety-six. -/
def Keep (key : Fin n → ℕ) (t : ℕ) (j : Fin n) : Prop :=
  t < key j ∨ (key j = t ∧ cnt (fun i => i ≤ j ∧ key i = t) ≤ 96 - cnt (fun i => t < key i))

/-- Entry `i` comes before entry `j` in the descending order of the keys, the earlier first among equal ones. -/
def Beats (key : Fin n → ℕ) (i j : Fin n) : Prop := key j < key i ∨ (key i = key j ∧ i < j)

instance (key : Fin n → ℕ) (i j : Fin n) : Decidable (Beats key i j) := by unfold Beats; infer_instance
instance (key : Fin n → ℕ) (t : ℕ) : DecidablePred (Keep key t) := fun j => by unfold Keep; infer_instance

/-- The kept entries are those with fewer than ninety-six before them. -/
theorem keep_iff (key : Fin n → ℕ) (t : ℕ) (h1 : 96 ≤ cnt (fun j => t ≤ key j)) (h2 : cnt (fun j => t < key j) < 96) (j : Fin n) :
    Keep key t j ↔ cnt (fun i => Beats key i j) < 96 := by
  unfold Keep
  rcases lt_trichotomy (key j) t with h | h | h
  · have h3 : 96 ≤ cnt (fun i => Beats key i j) := h1.trans (cnt_mono fun i hi => .inl (by omega))
    constructor
    · rintro (h' | h') <;> omega
    · intro h'; omega
  · have e : cnt (fun i => Beats key i j) = cnt (fun i => t < key i) + cnt (fun i => i < j ∧ key i = t) := by
      unfold cnt
      rw [← card_union_of_disjoint]
      · congr 1; ext i; simp only [Beats, mem_filter, mem_univ, true_and, mem_union, h]; tauto
      · rw [disjoint_filter]; intro i _ h3 h4; omega
    have e' : cnt (fun i => i ≤ j ∧ key i = t) = cnt (fun i => i < j ∧ key i = t) + 1 := by
      unfold cnt
      rw [← card_insert_of_notMem (s := univ.filter fun i => i < j ∧ key i = t) (a := j) (by simp)]
      congr 1; ext i; simp only [mem_filter, mem_univ, true_and, mem_insert, le_iff_lt_or_eq]
      constructor
      · rintro ⟨h3 | h3, h4⟩
        · exact .inr ⟨h3, h4⟩
        · exact .inl h3
      · rintro (h3 | ⟨h3, h4⟩)
        · exact ⟨.inr h3, h3 ▸ h⟩
        · exact ⟨.inl h3, h4⟩
    rw [e, e']
    constructor
    · rintro (h' | ⟨_, h'⟩) <;> omega
    · intro h'; exact .inr ⟨h, by omega⟩
  · have h3 : cnt (fun i => Beats key i j) ≤ cnt (fun i => t < key i) := cnt_mono fun i hi => by
      rcases hi with hi | hi <;> omega
    exact ⟨fun _ => by omega, fun _ => .inl h⟩

/-! ## The places of the kept entries -/

/-- The entry kept at place `k`, counted from zero, as a sum over the row. -/
def place (keep : Fin n → Prop) [DecidablePred keep] (k : ℕ) : ℕ :=
  ∑ j : Fin n, if keep j ∧ cnt (fun i => i ≤ j ∧ keep i) = k + 1 then j.val else 0

theorem pos_lt (keep : Fin n → Prop) [DecidablePred keep] {i j : Fin n} (hj : keep j) (h : i < j) :
    cnt (fun a => a ≤ i ∧ keep a) < cnt (fun a => a ≤ j ∧ keep a) := by
  unfold cnt
  refine card_lt_card ⟨fun a => ?_, fun hs => ?_⟩
  · simp only [mem_filter, mem_univ, true_and]; exact fun ⟨h1, h2⟩ => ⟨h1.trans h.le, h2⟩
  · have := @hs j (by simp [hj])
    simp only [mem_filter, mem_univ, true_and] at this
    exact absurd this.1 (not_le.2 h)

/-- A sum of at most one entry's number. -/
theorem place_eq_or (keep : Fin n → Prop) [DecidablePred keep] (k : ℕ) :
    place keep k = 0 ∨ ∃ j : Fin n, place keep k = j.val := by
  by_cases h : ∃ j : Fin n, keep j ∧ cnt (fun i => i ≤ j ∧ keep i) = k + 1
  · obtain ⟨j, hj⟩ := h
    refine .inr ⟨j, ?_⟩
    unfold place
    rw [sum_eq_single j]
    · rw [if_pos hj]
    · intro i _ hij
      rw [if_neg]
      rintro ⟨h1, h2⟩
      rcases lt_or_gt_of_ne hij with h3 | h3
      · have := pos_lt keep hj.1 h3; omega
      · have := pos_lt keep h1 h3; omega
    · simp
  · refine .inl ?_
    unfold place
    exact sum_eq_zero fun j _ => if_neg fun hj => h ⟨j, hj⟩

theorem place_lt (keep : Fin n → Prop) [DecidablePred keep] (k : ℕ) (hn : 0 < n) : place keep k < n := by
  rcases place_eq_or keep k with h | ⟨j, h⟩ <;> omega

/-- The places of the kept entries enumerate them upward. -/
theorem place_eq (keep : Fin n → Prop) [DecidablePred keep] {K : ℕ} (f : Fin K → Fin n) (hf : StrictMono f) (hr : ∀ j, keep j ↔ ∃ a, f a = j) (k : Fin K) :
    place keep k.val = (f k).val := by
  have hpos : ∀ a : Fin K, cnt (fun i => i ≤ f a ∧ keep i) = a.val + 1 := by
    intro a
    unfold cnt
    have : (univ.filter fun i => i ≤ f a ∧ keep i) = (Iic a).map ⟨f, hf.injective⟩ := by
      ext i
      simp only [mem_filter, mem_univ, true_and, mem_map, mem_Iic, Function.Embedding.coeFn_mk]
      constructor
      · rintro ⟨h1, h2⟩
        obtain ⟨b, rfl⟩ := (hr i).1 h2
        exact ⟨b, hf.le_iff_le.1 h1, rfl⟩
      · rintro ⟨b, h1, rfl⟩
        exact ⟨hf.monotone h1, (hr _).2 ⟨b, rfl⟩⟩
    rw [this, card_map, Fin.card_Iic]
  unfold place
  rw [sum_eq_single (f k)]
  · rw [if_pos ⟨(hr _).2 ⟨k, rfl⟩, hpos k⟩]
  · intro i _ hik
    rw [if_neg]
    rintro ⟨h1, h2⟩
    obtain ⟨b, rfl⟩ := (hr i).1 h1
    rw [hpos] at h2
    exact hik (congrArg f (Fin.ext (by omega)))
  · simp

/-! ## A stable sort -/

section Stable
open Idealize.ShloMosaic

variable {ι : Type} (R : ι → ι → Bool) (lt : ι → ι → Prop)

/-- `b` may stand before `c`: `c` does not sort before it, and if it does not sort before `c` either it came first. -/
def Fits (b c : ι) : Prop := R c b = false ∧ (R b c = true ∨ lt b c)

theorem fits_insert (hasymm : ∀ a b, R a b = true → R b a = false) (hnt : ∀ a b c, R a b = false → R b c = false → R a c = false)
    (a : ι) (l : List ι) (ha : ∀ b ∈ l, lt a b) (hl : l.Pairwise (Fits R lt)) : (insertBefore R a l).Pairwise (Fits R lt) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore R a l).mem_iff.mp hc) with rfl | hc'
      · exact ⟨hasymm _ _ h, .inl h⟩
      · exact hl.1 c hc'
    · rename_i h
      have hba : R b a = false := by simpa using h
      refine List.pairwise_cons.mpr ⟨fun c hc => ?_, List.pairwise_cons.mpr hl⟩
      rcases List.mem_cons.mp hc with rfl | hc'
      · exact ⟨hba, .inr (ha _ List.mem_cons_self)⟩
      · exact ⟨hnt c b a (hl.1 c hc').1 hba, .inr (ha _ (List.mem_cons_of_mem _ hc'))⟩

theorem fits_sort (hasymm : ∀ a b, R a b = true → R b a = false) (hnt : ∀ a b c, R a b = false → R b c = false → R a c = false)
    (l : List ι) (hl : l.Pairwise lt) : (stableSort R l).Pairwise (Fits R lt) := by
  induction l with
  | nil => exact List.Pairwise.nil
  | cons a l ih =>
    rw [List.pairwise_cons] at hl
    unfold stableSort
    exact fits_insert R lt hasymm hnt a _ (fun b hb => hl.1 b ((perm_stableSort R l).mem_iff.1 hb)) (ih hl.2)

end Stable

open Idealize.ShloMosaic in
/-- The sorted positions, in order: an earlier one sorts before a later one, or equally and came first. -/
theorem sortedFrom_fits (R : Fin n → Fin n → Bool) (hasymm : ∀ a b, R a b = true → R b a = false)
    (hnt : ∀ a b c, R a b = false → R b c = false → R a c = false) (i j : Fin n) (hij : i < j) :
    Fits R (· < ·) (sortedFrom R i) (sortedFrom R j) := by
  have hp : ∀ a b : Fin (sortPositions n R).length, a < b →
      Fits R (· < ·) ((sortPositions n R).get a) ((sortPositions n R).get b) :=
    List.pairwise_iff_get.mp (fits_sort R (· < ·) hasymm hnt (List.finRange n) (List.pairwise_lt_finRange n))
  unfold sortedFrom
  exact hp _ _ (by simp only [Fin.lt_def, Fin.val_cast]; exact hij)

/-- A bijection along which `B` ascends counts, at each place, the places before it. -/
theorem cnt_before (B : Fin n → Fin n → Prop) [∀ i j, Decidable (B i j)] (hB : ∀ a b, B a b → ¬ B b a) (hB' : ∀ a, ¬ B a a)
    (σ : Fin n → Fin n) (hσ : Function.Bijective σ) (hs : ∀ a b, a < b → B (σ a) (σ b)) (r : Fin n) :
    cnt (fun i => B i (σ r)) = r.val := by
  unfold cnt
  have : (univ.filter fun i => B i (σ r)) = (Iio r).map ⟨σ, hσ.1⟩ := by
    ext i
    obtain ⟨a, rfl⟩ := hσ.2 i
    simp only [mem_filter, mem_univ, true_and, mem_map, mem_Iio, Function.Embedding.coeFn_mk]
    constructor
    · intro h
      refine ⟨a, ?_, rfl⟩
      rcases lt_trichotomy a r with h1 | h1 | h1
      · exact h1
      · subst h1; exact absurd h (hB' _)
      · exact absurd (hs _ _ h1) (hB _ _ h)
    · rintro ⟨b, h1, h2⟩
      rw [← h2]; exact hs _ _ h1
  rw [this, card_map, Fin.card_Iio]

/-! ## Running sums by doubling -/

/-- The sum of the last `L` entries up to `j`. -/
def win {M : Type} [AddCommMonoid M] (x : Fin n → M) (L : ℕ) (j : Fin n) : M := ∑ i : Fin n, if i ≤ j ∧ j.val < i.val + L then x i else 0

theorem win_one {M : Type} [AddCommMonoid M] (x : Fin n → M) (j : Fin n) : win x 1 j = x j := by
  unfold win
  rw [sum_eq_single j]
  · simp
  · intro i _ h; rw [if_neg]; rintro ⟨h1, h2⟩; exact h (Fin.ext (by have : i.val ≤ j.val := h1; omega))
  · simp

theorem win_double {M : Type} [AddCommMonoid M] (x : Fin n → M) (L : ℕ) (j : Fin n) :
    win x L j + (if h : L ≤ j.val then win x L ⟨j.val - L, by omega⟩ else 0) = win x (2 * L) j := by
  unfold win
  by_cases h : L ≤ j.val
  · rw [dif_pos h, ← sum_add_distrib]
    refine sum_congr rfl fun i _ => ?_
    have e1 : (i ≤ j) = (i.val ≤ j.val) := rfl
    have e2 : (i ≤ (⟨j.val - L, by omega⟩ : Fin n)) = (i.val ≤ j.val - L) := rfl
    simp only [e1, e2]
    split_ifs <;> first | (exfalso; omega) | simp
  · rw [dif_neg h, add_zero]
    refine sum_congr rfl fun i _ => if_congr ?_ rfl rfl
    have e1 : (i ≤ j) = (i.val ≤ j.val) := rfl
    simp only [e1]; omega

theorem win_all {M : Type} [AddCommMonoid M] (x : Fin n → M) (L : ℕ) (hL : n ≤ L) (j : Fin n) : win x L j = ∑ i : Fin n, if i ≤ j then x i else 0 := by
  unfold win
  refine sum_congr rfl fun i _ => if_congr ⟨fun h => h.1, fun h => ⟨h, by omega⟩⟩ rfl rfl

end Cert.Proof.Count

end
-- ==== Proof.Select.lean ====
/-
  The selection's vector functions read on one row of a block, as natural numbers: the rank of a score, the count of a
  row's flags, a running count, the bisection's threshold, the kept entries and the entry at each place.
-/
module

public import Idealize.ShloMosaic.Lib.WordSum
public import Idealize.ShloMosaic.Lib.KernelVsHost
public import Idealize.ShloMosaic.Lib.Pointwise.Reduce
public import Idealize.ShloMosaic.Lib.Exec.Context
public import proofs.«01_k».proof.Proof.Sel
public import proofs.«01_k».proof.Proof.Count

@[expose] public section

noncomputable section

namespace Cert.Proof.Score

open Cert.KernelIdeal Cert.KernelIdeal.Gen
open Cert.Proof.Count
open Idealize.ShloMosaic

variable {F : FTy → Type} [FloatOps F]

/-! ## Words as numbers -/

theorem ofBool_eq_one (b : Bool) : BitVec.ofBool b = 1#1 ↔ b = true := by cases b <;> decide

theorem toInt_small {a : BitVec 32} (ha : a.toNat < 2 ^ 31) : a.toInt = a.toNat := by
  rw [BitVec.toInt_eq_toNat_cond, if_pos (by omega)]

theorem sge_iff {a b : BitVec 32} (ha : a.toNat < 2 ^ 31) (hb : b.toNat < 2 ^ 31) : IntOp.cmpi .sge a b = 1#1 ↔ b.toNat ≤ a.toNat := by
  show BitVec.ofBool (b.sle a) = 1#1 ↔ _
  rw [ofBool_eq_one, BitVec.sle_iff_toInt_le, toInt_small ha, toInt_small hb]; omega
theorem sle_iff {a b : BitVec 32} (ha : a.toNat < 2 ^ 31) (hb : b.toNat < 2 ^ 31) : IntOp.cmpi .sle a b = 1#1 ↔ a.toNat ≤ b.toNat := by
  show BitVec.ofBool (a.sle b) = 1#1 ↔ _
  rw [ofBool_eq_one, BitVec.sle_iff_toInt_le, toInt_small ha, toInt_small hb]; omega
theorem sgt_iff {a b : BitVec 32} (ha : a.toNat < 2 ^ 31) (hb : b.toNat < 2 ^ 31) : IntOp.cmpi .sgt a b = 1#1 ↔ b.toNat < a.toNat := by
  show BitVec.ofBool (b.slt a) = 1#1 ↔ _
  rw [ofBool_eq_one, BitVec.slt_iff_toInt_lt, toInt_small ha, toInt_small hb]; omega
theorem eq_iff {a b : BitVec 32} : IntOp.cmpi .eq a b = 1#1 ↔ a.toNat = b.toNat := by
  show BitVec.ofBool (a == b) = 1#1 ↔ _
  rw [ofBool_eq_one, beq_iff_eq]; exact ⟨congrArg _, BitVec.eq_of_toNat_eq⟩

theorem toNat_flag (b : BitVec 1) : (b.setWidth 32).toNat = if b = 1#1 then 1 else 0 := by
  have : ∀ b : BitVec 1, (b.setWidth 32).toNat = if b = 1#1 then 1 else 0 := by decide
  exact this b

theorem scalarSelect_eq {α : Type} (c : BitVec 1) (a b : α) : Scalar.select c a b = if c = 1#1 then a else b := rfl

theorem or_one (a b : BitVec 1) : IntOp.ori a b = 1#1 ↔ a = 1#1 ∨ b = 1#1 := by revert a b; decide
theorem and_one (a b : BitVec 1) : IntOp.andi a b = 1#1 ↔ a = 1#1 ∧ b = 1#1 := by revert a b; decide

theorem sum_flags {n : ℕ} (p : Fin n → Prop) [DecidablePred p] : (∑ j : Fin n, if p j then 1 else 0) = cnt p := by
  unfold cnt; rw [Finset.card_filter]

/-! ## Layout -/

theorem wide_apply (x : IVec S8x1 32) (t : Fin 8) (j : Fin 576) : wide x (ix2 t j) = x (ix2 t (0 : Fin 1)) := by
  unfold wide
  exact broadcastTo_apply x _ (ix2 t j) (ix2 t (0 : Fin 1)) (fun a => by match a with | ⟨0, _⟩ => rfl | ⟨1, _⟩ => rfl)

theorem iotaJ_apply (t : Fin 8) (j : Fin 576) : (iotaJ (ix2 t j)).toNat = j.val := by
  have h : iotaJ (ix2 t j) = BitVec.ofNat 32 (0 * 576 + j.val) := rfl
  rw [h, BitVec.toNat_ofNat]; omega

/-! ## Counts of a row's flags -/

theorem rowCount_apply (x : IVec S8x576 1) (t : Fin 8) :
    (rowCount x (ix2 t (0 : Fin 1))).toNat = cnt (fun j : Fin 576 => x (ix2 t j) = 1#1) := by
  unfold rowCount
  rw [shapeCast_apply _ shapeCasts_S8_S8x1 (ix2 t (0 : Fin 1)) (ix1 t) (by
    rw [Shape.rowMajor_val_two, Shape.rowMajor_val_one]; show t.val = t.val * 1 + 0; omega)]
  have e : ∑ i ∈ Finset.univ.filter (fun i => reduces_S8x576_S8.drop i = ix1 t), (extui 32 x natLt_1_32 i).toNat
      = cnt (fun j : Fin 576 => x (ix2 t j) = 1#1) := by
    refine (Shape.Reduces.sum_fiber_r2_a1 (n0 := 8) (n1 := 576) reduces_S8x576_S8 (ix1 t) (fun i => (extui 32 x natLt_1_32 i).toNat)).trans ?_
    rw [← sum_flags]
    exact Finset.sum_congr rfl fun j _ => toNat_flag _
  exact (WordSum.toNat_multiReductionI_add _ _ _ _ (by rw [e]; have := cnt_le (fun j : Fin 576 => x (ix2 t j) = 1#1); omega)).trans e

/-- The rank of a score is how many scores of its row lie below it. -/
theorem rankB_apply (s : FVec F S8x576 .f32) (t : Fin 8) (j : Fin 576) :
    (rankB s (ix2 t j)).toNat = cnt (fun i : Fin 576 => FloatOps.cmpf .olt (s (ix2 t i)) (s (ix2 t j)) = 1#1) := by
  unfold rankB
  have e : ∑ i ∈ Finset.univ.filter (fun i => reduces_S8x576x576_S8x576.drop i = ix2 t j),
      (extui 32 (cmpf .olt (broadcastTo S8x576x576 (shapeCast S8x1x576 s shapeCasts_S8x576_S8x1x576) broadcasts_S8x1x576_S8x576x576)
        (broadcastTo S8x576x576 (shapeCast S8x576x1 s shapeCasts_S8x576_S8x576x1) broadcasts_S8x576x1_S8x576x576)) natLt_1_32 i).toNat
      = cnt (fun i : Fin 576 => FloatOps.cmpf .olt (s (ix2 t i)) (s (ix2 t j)) = 1#1) := by
    refine (Shape.Reduces.sum_fiber_r3_a2 (n0 := 8) (n1 := 576) (n2 := 576) reduces_S8x576x576_S8x576 (ix2 t j) _).trans ?_
    rw [← sum_flags]
    refine Finset.sum_congr rfl fun i _ => ?_
    refine (toNat_flag _).trans ?_
    have e1 : broadcastTo S8x576x576 (shapeCast S8x1x576 s shapeCasts_S8x576_S8x1x576) broadcasts_S8x1x576_S8x576x576 (ix3 t j i) = s (ix2 t i) := by
      rw [broadcastTo_apply _ _ (ix3 t j i) (ix3 t (0 : Fin 1) i) (fun a => by match a with | ⟨0, _⟩ => rfl | ⟨1, _⟩ => rfl | ⟨2, _⟩ => rfl)]
      exact shapeCast_apply _ _ _ (ix2 t i) (by
        rw [rowMajor_val2 _ 576 rfl, rowMajor_val3 _ 576 576 rfl rfl]; show t.val * 576 + i.val = t.val * 576 + 0 * 576 + i.val; omega)
    have e2 : broadcastTo S8x576x576 (shapeCast S8x576x1 s shapeCasts_S8x576_S8x576x1) broadcasts_S8x576x1_S8x576x576 (ix3 t j i) = s (ix2 t j) := by
      rw [broadcastTo_apply _ _ (ix3 t j i) (ix3 t j (0 : Fin 1)) (fun a => by match a with | ⟨0, _⟩ => rfl | ⟨1, _⟩ => rfl | ⟨2, _⟩ => rfl)]
      exact shapeCast_apply _ _ _ (ix2 t j) (by
        rw [rowMajor_val2 _ 576 rfl, rowMajor_val3 _ 576 1 rfl rfl]; show t.val * 576 + j.val = t.val * 576 + j.val * 1 + 0; omega)
    have e3 : cmpf .olt (broadcastTo S8x576x576 (shapeCast S8x1x576 s shapeCasts_S8x576_S8x1x576) broadcasts_S8x1x576_S8x576x576)
        (broadcastTo S8x576x576 (shapeCast S8x576x1 s shapeCasts_S8x576_S8x576x1) broadcasts_S8x576x1_S8x576x576) (ix3 t j i)
        = FloatOps.cmpf .olt (s (ix2 t i)) (s (ix2 t j)) := congrArg₂ (FloatOps.cmpf .olt) e1 e2
    exact congrArg (fun b : BitVec 1 => if b = 1#1 then 1 else 0) e3
  exact (WordSum.toNat_multiReductionI_add _ _ _ _ (by rw [e]; exact lt_of_le_of_lt (cnt_le _) (by norm_num))).trans e

/-! ## Running counts -/

theorem rotAdd_apply (k : ℕ) (hk : k < 576) (x : IVec S8x576 32) (t : Fin 8) (j : Fin 576) :
    rotAdd (BitVec.ofNat 32 k) x (ix2 t j) = x (ix2 t j) + if h : k ≤ j.val then x (ix2 t (⟨j.val - k, by omega⟩ : Fin 576)) else 0 := by
  have hkn : (BitVec.ofNat 32 k).toNat = k := by rw [BitVec.toNat_ofNat]; omega
  have e : rotAdd (BitVec.ofNat 32 k) x (ix2 t j) = x (ix2 t j)
      + (if IntOp.cmpi .sge (iotaJ (ix2 t j)) (BitVec.ofNat 32 k) = 1#1 then dynamicRotate 1 (BitVec.ofNat 32 k) none x rotates_S8x576_d1 (ix2 t j) else 0#32) := rfl
  rw [e, if_congr (sge_iff (by rw [iotaJ_apply]; omega) (by omega)) rfl rfl, hkn, iotaJ_apply]
  congr 1
  by_cases h : k ≤ j.val
  · rw [if_pos h, dif_pos h]
    refine dynamicRotate_apply (1 : Fin 2) (BitVec.ofNat 32 k) x rotates_S8x576_d1 (ix2 t j) (ix2 t (⟨j.val - k, by omega⟩ : Fin 576)) (fun b => ?_)
    match b with
    | ⟨0, _⟩ => rfl
    | ⟨1, _⟩ =>
      show j.val - k = (j.val + 576 - (BitVec.ofNat 32 k).toNat % 576) % 576
      rw [hkn]; omega
  · rw [if_neg h, dif_neg h]; rfl

theorem rotAdd_win (k : ℕ) (hk : k < 576) (x y : IVec S8x576 32) (t : Fin 8) (h : ∀ j : Fin 576, y (ix2 t j) = win (fun i : Fin 576 => x (ix2 t i)) k j) (j : Fin 576) :
    rotAdd (BitVec.ofNat 32 k) y (ix2 t j) = win (fun i : Fin 576 => x (ix2 t i)) (2 * k) j := by
  rw [rotAdd_apply k hk, ← win_double, h j]
  by_cases hj : k ≤ j.val
  · rw [dif_pos hj, dif_pos hj, h]
  · rw [dif_neg hj, dif_neg hj]

/-- The running sum along a row. -/
theorem cums_apply (x : IVec S8x576 32) (t : Fin 8) (j : Fin 576) : cums x (ix2 t j) = ∑ i : Fin 576, if i ≤ j then x (ix2 t i) else 0 := by
  rw [← win_all (fun i : Fin 576 => x (ix2 t i)) 1024 (by norm_num) j]
  unfold cums
  exact rotAdd_win 512 (by norm_num) x _ t (rotAdd_win 256 (by norm_num) x _ t (rotAdd_win 128 (by norm_num) x _ t
    (rotAdd_win 64 (by norm_num) x _ t (rotAdd_win 32 (by norm_num) x _ t (rotAdd_win 16 (by norm_num) x _ t
    (rotAdd_win 8 (by norm_num) x _ t (rotAdd_win 4 (by norm_num) x _ t (rotAdd_win 2 (by norm_num) x _ t
    (rotAdd_win 1 (by norm_num) x _ t (fun j => (win_one (fun i : Fin 576 => x (ix2 t i)) j).symm)))))))))) j

/-- The running count of a row's flags. -/
theorem cums_flags (x : IVec S8x576 1) (t : Fin 8) (j : Fin 576) :
    (cums (extui 32 x natLt_1_32) (ix2 t j)).toNat = cnt (fun i : Fin 576 => i ≤ j ∧ x (ix2 t i) = 1#1) := by
  have e : ∑ i : Fin 576, (if i ≤ j then extui 32 x natLt_1_32 (ix2 t i) else 0 : BitVec 32).toNat = cnt (fun i : Fin 576 => i ≤ j ∧ x (ix2 t i) = 1#1) := by
    rw [← sum_flags]
    refine Finset.sum_congr rfl fun i _ => ?_
    by_cases h : i ≤ j
    · rw [if_pos h]; refine (toNat_flag _).trans (if_congr ?_ rfl rfl); simp [h]
    · rw [if_neg h, if_neg (fun h' => h h'.1)]; rfl
  rw [cums_apply, WordSum.toNat_sum _ _ (by rw [e]; exact lt_of_le_of_lt (cnt_le _) (by norm_num)), e]

/-! ## The bisection -/

/-- A row of words as numbers. -/
def row (x : IVec S8x576 32) (t : Fin 8) (j : Fin 576) : ℕ := (x (ix2 t j)).toNat

def ends (p : IVec S8x1 32 × IVec S8x1 32) (t : Fin 8) : ℕ × ℕ := ((p.1 (ix2 t (0 : Fin 1))).toNat, (p.2 (ix2 t (0 : Fin 1))).toNat)

theorem midB_apply (lo hi : IVec S8x1 32) (t : Fin 8) (h : (lo (ix2 t (0 : Fin 1))).toNat + (hi (ix2 t (0 : Fin 1))).toNat < 2 ^ 31) :
    (midB lo hi (ix2 t (0 : Fin 1))).toNat = ((lo (ix2 t (0 : Fin 1))).toNat + (hi (ix2 t (0 : Fin 1))).toNat) / 2 := by
  have e : midB lo hi (ix2 t (0 : Fin 1)) = (lo (ix2 t (0 : Fin 1)) + hi (ix2 t (0 : Fin 1))).sshiftRight' 1#32 := rfl
  have e0 : (lo (ix2 t (0 : Fin 1)) + hi (ix2 t (0 : Fin 1))).toNat = (lo (ix2 t (0 : Fin 1))).toNat + (hi (ix2 t (0 : Fin 1))).toNat := by
    rw [BitVec.toNat_add]; omega
  have e1 : (lo (ix2 t (0 : Fin 1)) + hi (ix2 t (0 : Fin 1))).msb = false := by
    rw [BitVec.msb_eq_false_iff_two_mul_lt, e0]; omega
  rw [e]
  show (BitVec.sshiftRight (lo (ix2 t (0 : Fin 1)) + hi (ix2 t (0 : Fin 1))) 1).toNat = _
  rw [BitVec.sshiftRight_eq_of_msb_false e1, BitVec.toNat_ushiftRight, e0]
  rfl

theorem bisStep_apply (key : IVec S8x576 32) (p : IVec S8x1 32 × IVec S8x1 32) (t : Fin 8) (hk : ∀ j, row key t j < 2 ^ 31)
    (hp : (ends p t).1 ≤ 2 ^ 30 - 1 ∧ (ends p t).2 ≤ 2 ^ 30 - 1) : ends (bisStep key p) t = step (row key t) (ends p t) := by
  have hm := midB_apply p.1 p.2 t (by have h1 := hp.1; have h2 := hp.2; unfold ends at h1 h2; simp only [] at h1 h2; omega)
  have hc : (enough key p.1 p.2 (ix2 t (0 : Fin 1)) = 1#1) ↔ 96 ≤ cnt (fun j => ((ends p t).1 + (ends p t).2) / 2 ≤ row key t j) := by
    have e : enough key p.1 p.2 (ix2 t (0 : Fin 1)) = IntOp.cmpi .sge (rowCount (cmpi .sge key (wide (midB p.1 p.2))) (ix2 t (0 : Fin 1))) 96#32 := rfl
    have e1 : (rowCount (cmpi .sge key (wide (midB p.1 p.2))) (ix2 t (0 : Fin 1))).toNat = cnt (fun j => ((ends p t).1 + (ends p t).2) / 2 ≤ row key t j) := by
      rw [rowCount_apply]
      refine cnt_congr fun j => ?_
      have e2 : cmpi .sge key (wide (midB p.1 p.2)) (ix2 t j) = IntOp.cmpi .sge (key (ix2 t j)) (midB p.1 p.2 (ix2 t (0 : Fin 1))) :=
        congrArg (IntOp.cmpi .sge (key (ix2 t j))) (wide_apply _ t j)
      rw [e2, sge_iff (hk j) (by rw [hm]; have h1 := hp.1; have h2 := hp.2; unfold ends at h1 h2; simp only [] at h1 h2; omega), hm]
      rfl
    rw [e, sge_iff (by rw [e1]; exact lt_of_le_of_lt (cnt_le _) (by norm_num)) (by decide), e1]
    rfl
  unfold step
  have e1 : ends (bisStep key p) t = ((if enough key p.1 p.2 (ix2 t (0 : Fin 1)) = 1#1 then midB p.1 p.2 (ix2 t (0 : Fin 1)) else p.1 (ix2 t (0 : Fin 1)) : BitVec 32).toNat,
      (if enough key p.1 p.2 (ix2 t (0 : Fin 1)) = 1#1 then p.2 (ix2 t (0 : Fin 1)) else midB p.1 p.2 (ix2 t (0 : Fin 1)) : BitVec 32).toNat) := rfl
  rw [e1]
  by_cases h : enough key p.1 p.2 (ix2 t (0 : Fin 1)) = 1#1
  · rw [if_pos h, if_pos h, if_pos (hc.1 h), hm]; rfl
  · rw [if_neg h, if_neg h, if_neg (fun h' => h (hc.2 h')), hm]; rfl

theorem trips_eq : k0_t1_loop.trips = 31 := by decide

theorem foldl_const {α : Type} {n : ℕ} (f : α → α) (a : α) (l : List (Fin n)) : l.foldl (fun p _ => f p) a = f^[l.length] a := by
  induction l generalizing a with
  | nil => rfl
  | cons b l ih => rw [List.foldl_cons, ih, List.length_cons, Function.iterate_succ_apply]

theorem thrB_apply (key : IVec S8x576 32) (t : Fin 8) (hk : ∀ j, row key t j < 2 ^ 31) :
    (thrB key (ix2 t (0 : Fin 1))).toNat = thr (row key t) := by
  have h : ∀ m, ends ((bisStep key)^[m] (broadcast S8x1 0#32, broadcast S8x1 1065353217#32)) t = (step (row key t))^[m] (0, 1065353217) := by
    intro m
    induction m with
    | zero => rfl
    | succ m ih =>
      rw [Function.iterate_succ_apply', Function.iterate_succ_apply', bisStep_apply key _ t hk (by
        rw [ih]; exact iter_le _ _ _ (by norm_num) m), ih]
  unfold thrB thr
  rw [Scf.fold_eq, foldl_const (bisStep key), List.length_finRange, trips_eq]
  exact congrArg Prod.fst (h 31)

/-! ## The kept entries and their places -/

theorem keepB_apply (key : IVec S8x576 32) (th : IVec S8x1 32) (t : Fin 8) (hk : ∀ j, row key t j < 2 ^ 31)
    (hth : (th (ix2 t (0 : Fin 1))).toNat < 2 ^ 31)
    (hm : cnt (fun j => (th (ix2 t (0 : Fin 1))).toNat < row key t j) < 96) (j : Fin 576) :
    keepB key th (ix2 t j) = 1#1 ↔ Keep (row key t) (th (ix2 t (0 : Fin 1))).toNat j := by
  have hg : ∀ i : Fin 576, gtB key th (ix2 t i) = 1#1 ↔ (th (ix2 t (0 : Fin 1))).toNat < row key t i := fun i => by
    have e : gtB key th (ix2 t i) = IntOp.cmpi .sgt (key (ix2 t i)) (th (ix2 t (0 : Fin 1))) := congrArg (IntOp.cmpi .sgt (key (ix2 t i))) (wide_apply _ t i)
    rw [e, sgt_iff (hk i) hth]; rfl
  have he : ∀ i : Fin 576, eqB key th (ix2 t i) = 1#1 ↔ row key t i = (th (ix2 t (0 : Fin 1))).toNat := fun i => by
    have e : eqB key th (ix2 t i) = IntOp.cmpi .eq (key (ix2 t i)) (th (ix2 t (0 : Fin 1))) := congrArg (IntOp.cmpi .eq (key (ix2 t i))) (wide_apply _ t i)
    rw [e, eq_iff]; rfl
  have hrc : (rowCount (gtB key th) (ix2 t (0 : Fin 1))).toNat = cnt (fun j => (th (ix2 t (0 : Fin 1))).toNat < row key t j) := by
    rw [rowCount_apply]; exact cnt_congr hg
  have hsub : (subi (broadcast S8x1 96#32) (rowCount (gtB key th)) (ix2 t (0 : Fin 1))).toNat = 96 - cnt (fun j => (th (ix2 t (0 : Fin 1))).toNat < row key t j) := by
    have e : subi (broadcast S8x1 96#32) (rowCount (gtB key th)) (ix2 t (0 : Fin 1)) = 96#32 - rowCount (gtB key th) (ix2 t (0 : Fin 1)) := rfl
    have h96 : (96#32 : BitVec 32).toNat = 96 := rfl
    rw [e, BitVec.toNat_sub, hrc, h96]; omega
  have e : keepB key th (ix2 t j) = IntOp.ori (gtB key th (ix2 t j)) (IntOp.andi (eqB key th (ix2 t j))
      (IntOp.cmpi .sle (cums (extui 32 (eqB key th) natLt_1_32) (ix2 t j)) (wide (subi (broadcast S8x1 96#32) (rowCount (gtB key th))) (ix2 t j)))) := rfl
  have hcm : (cums (extui 32 (eqB key th) natLt_1_32) (ix2 t j)).toNat = cnt (fun i => i ≤ j ∧ row key t i = (th (ix2 t (0 : Fin 1))).toNat) := by
    rw [cums_flags]; exact cnt_congr fun i => and_congr_right fun _ => he i
  rw [e, or_one, and_one, hg, he, wide_apply, sle_iff (by rw [hcm]; exact lt_of_le_of_lt (cnt_le _) (by norm_num)) (by rw [hsub]; omega), hcm, hsub]
  rfl

instance (keep : IVec S8x576 1) (t : Fin 8) : DecidablePred (fun j : Fin 576 => keep (ix2 t j) = 1#1) := fun _ => inferInstance

/-- The entry picked for a place is the entry kept at that place. -/
theorem pickB_apply (keep : IVec S8x576 1) (t : Fin 8) (k : Fin 96) :
    (pickB (slotB keep) t (ix2 (0 : Fin 1) k)).toNat = place (fun j : Fin 576 => keep (ix2 t j) = 1#1) k.val := by
  unfold pickB
  rw [shapeCast_apply _ shapeCasts_S96_S1x96 (ix2 (0 : Fin 1) k) (ix1 k) (by
    rw [Shape.rowMajor_val_two, Shape.rowMajor_val_one]; show k.val = 0 * 96 + k.val; omega)]
  have hs : ∀ j : Fin 576, (slotB keep (ix2 j t)).toNat = if keep (ix2 t j) = 1#1 then cnt (fun i : Fin 576 => i ≤ j ∧ keep (ix2 t i) = 1#1) else 0 := fun j => by
    unfold slotB
    rw [transpose_apply _ _ _ (ix2 j t) (ix2 t j) (fun a => by match a with | ⟨0, _⟩ => rfl | ⟨1, _⟩ => rfl)]
    have e : select keep (cums (extui 32 keep natLt_1_32)) (broadcast S8x576 0#32) (ix2 t j)
        = if keep (ix2 t j) = 1#1 then cums (extui 32 keep natLt_1_32) (ix2 t j) else 0#32 := rfl
    rw [e]
    by_cases h : keep (ix2 t j) = 1#1
    · rw [if_pos h, if_pos h, cums_flags]
    · rw [if_neg h, if_neg h]; rfl
  have e : ∑ i ∈ Finset.univ.filter (fun i => reduces_S576x96_S96.drop i = ix1 k),
      (select (cmpi .eq (broadcastTo S576x96 (shapeCast S576x1 (extractStridedSlice S576x1 ![0, t.val] (slotB keep) (slC t)) shapeCasts_S576x1_S576x1) broadcasts_S576x1_S576x96)
        (addi (iota .tc S576x96 32 [1] iota_S576x96_d1_w32) (broadcast S576x96 1#32)))
      (iota .tc S576x96 32 [0] iota_S576x96_d0_w32) (broadcast S576x96 0#32) i).toNat = place (fun j : Fin 576 => keep (ix2 t j) = 1#1) k.val := by
    refine (Shape.Reduces.sum_fiber_r2_a0 (n0 := 576) (n1 := 96) reduces_S576x96_S96 (ix1 k) _).trans ?_
    unfold place
    refine Finset.sum_congr rfl fun j _ => ?_
    have e1 : broadcastTo S576x96 (shapeCast S576x1 (extractStridedSlice S576x1 ![0, t.val] (slotB keep) (slC t)) shapeCasts_S576x1_S576x1) broadcasts_S576x1_S576x96 (ix2 j k) = slotB keep (ix2 j t) := by
      rw [broadcastTo_apply _ _ (ix2 j k) (ix2 j (0 : Fin 1)) (fun a => by match a with | ⟨0, _⟩ => rfl | ⟨1, _⟩ => rfl)]
      rw [shapeCast_apply _ _ _ (ix2 j (0 : Fin 1)) rfl]
      exact extractStridedSlice_apply ![0, t.val] _ (slC t) (ix2 j (0 : Fin 1)) (ix2 j t) (fun a => by
        match a with
        | ⟨0, _⟩ => show j.val = 0 + j.val; omega
        | ⟨1, _⟩ => show t.val = t.val + 0; omega)
    have e2 : (select (cmpi .eq (broadcastTo S576x96 (shapeCast S576x1 (extractStridedSlice S576x1 ![0, t.val] (slotB keep) (slC t)) shapeCasts_S576x1_S576x1) broadcasts_S576x1_S576x96)
        (addi (iota .tc S576x96 32 [1] iota_S576x96_d1_w32) (broadcast S576x96 1#32)))
      (iota .tc S576x96 32 [0] iota_S576x96_d0_w32) (broadcast S576x96 0#32) (ix2 j k))
        = if IntOp.cmpi .eq (slotB keep (ix2 j t)) (BitVec.ofNat 32 (0 * 96 + k.val) + 1#32) = 1#1 then BitVec.ofNat 32 (0 * 576 + j.val) else 0#32 := by
      rw [← e1]; rfl
    have e3 : (BitVec.ofNat 32 (0 * 96 + k.val) + 1#32).toNat = k.val + 1 := by
      rw [BitVec.toNat_add, BitVec.toNat_ofNat]; show (_ + 1) % _ = _; omega
    have e4 : (BitVec.ofNat 32 (0 * 576 + j.val)).toNat = j.val := by rw [BitVec.toNat_ofNat]; omega
    refine (congrArg BitVec.toNat e2).trans ?_
    rw [if_congr eq_iff rfl rfl, hs, e3]
    by_cases h : keep (ix2 t j) = 1#1
    · rw [if_pos h]
      by_cases h' : cnt (fun i : Fin 576 => i ≤ j ∧ keep (ix2 t i) = 1#1) = k.val + 1
      · rw [if_pos h', if_pos ⟨h, h'⟩, e4]
      · rw [if_neg h', if_neg (fun h'' => h' h''.2)]; rfl
    · rw [if_neg h, if_neg (by omega), if_neg (fun h'' => h h''.1)]; rfl
  exact (WordSum.toNat_multiReductionI_add _ _ _ _ (by rw [e]; exact lt_trans (place_lt _ _ (by norm_num)) (by norm_num))).trans e

/-- A picked entry is one of the row's. -/
theorem lidxB_lt (key : IVec S8x576 32) (t : Fin 8) (k : Fin 96) : (lidxB key t (ix2 (0 : Fin 1) k)).toNat < 576 := by
  unfold lidxB
  rw [pickB_apply]; exact place_lt _ _ (by norm_num)

/-- With the ranks for keys, the entry picked for place `k` is the `k`-th kept entry, those with fewer than ninety-six before them. -/
theorem lidxB_eq (key : IVec S8x576 32) (t : Fin 8) (hk : ∀ j, row key t j < 576) (f : Fin 96 → Fin 576) (hf : StrictMono f)
    (hr : ∀ j, cnt (fun i => Beats (row key t) i j) < 96 ↔ ∃ a, f a = j) (k : Fin 96) :
    (lidxB key t (ix2 (0 : Fin 1) k)).toNat = (f k).val := by
  have hk' : ∀ j, row key t j < 2 ^ 31 := fun j => lt_trans (hk j) (by norm_num)
  obtain ⟨h1, h2⟩ := thr_spec (row key t) (by norm_num) (fun j => lt_trans (hk j) (by norm_num))
  have hth := thrB_apply key t hk'
  have hle : thr (row key t) ≤ 1065353217 := (iter_le (row key t) (0, 1065353217) 1065353217 (by norm_num) 31).1
  unfold lidxB
  rw [pickB_apply]
  refine place_eq _ f hf (fun j => ?_) k
  rw [keepB_apply key _ t hk' (by rw [hth]; omega) (by rw [hth]; exact h2) j, hth, keep_iff _ _ h1 h2, hr]

theorem gidxB_toNat (g : ℕ) (hg : g < 8) (key : IVec S8x576 32) (t : Fin 8) (k : Fin 96) :
    (gidxB (BitVec.ofNat 32 g) key t (ix2 (0 : Fin 1) k)).toNat = (lidxB key t (ix2 (0 : Fin 1) k)).toNat + (g * 8 + t.val) * 576 := by
  have e : gidxB (BitVec.ofNat 32 g) key t (ix2 (0 : Fin 1) k) = lidxB key t (ix2 (0 : Fin 1) k) + (BitVec.ofNat 32 g * 8#32 + BitVec.ofNat 32 t.val) * 576#32 := rfl
  have h1 := lidxB_lt key t k
  have h2 := t.isLt
  rw [e]
  simp only [BitVec.toNat_add, BitVec.toNat_mul, BitVec.toNat_ofNat]
  omega

theorem lidxOut_lt (key : IVec S8x576 32) (y : S8x1x96.Idx) : (lidxOut key y).toNat < 576 := lidxB_lt key (y 0) (y 2)

theorem gidxOut_toNat (g : ℕ) (hg : g < 8) (key : IVec S8x576 32) (y : S8x1x96.Idx) :
    (gidxOut (BitVec.ofNat 32 g) key y).toNat = (lidxOut key y).toNat + (g * 8 + (y 0).val) * 576 := gidxB_toNat g hg key (y 0) (y 2)

end Cert.Proof.Score

end
-- ==== Proof.Outs.lean ====
/-
  The scoring pipeline's two arrays and its operands' blocks, read at an index.
-/
module

public import proofs.«01_k».proof.Proof.Select
public import proofs.«01_k».proof.Proof.Region

@[expose] public section

noncomputable section

namespace Cert.Proof.Score

open Cert.KernelIdeal Cert.KernelIdeal.Gen
open Cert.Proof.Gather
open Idealize.ShloMosaic
open Idealize.ShloMosaic.Pipeline

variable {F : FTy → Type} [FloatOps F] {c : Dev nD}

/-! ## The points -/

theorem lt_N (g : Fin 8) : g.val < cfg0.N := g.isLt

/-- Point `g` of the grid. -/
def pt (g : Fin 8) : Fin cfg0.N := ⟨g.val, lt_N g⟩

theorem coords_val : ∀ t : Fin cfg0.N, (grid0.coords t 0).val = t.val := by decide

theorem index_0 : ∀ t : Fin cfg0.N, win0_0.index t 0 = t.val ∧ win0_0.index t 1 = 0 := by decide
theorem index_1 : ∀ t : Fin cfg0.N, win0_1.index t 0 = 0 ∧ win0_1.index t 1 = t.val := by decide
theorem index_2 : win0_2.index t0_0 0 = 0 ∧ win0_2.index t0_0 1 = 0 := by decide
theorem index_3 : win0_3.index t0_0 0 = 1 ∧ win0_3.index t0_0 1 = 0 := by decide
theorem index_4 : win0_4.index t0_0 0 = 0 ∧ win0_4.index t0_0 1 = 0 := by decide
theorem index_5 : win0_5.index t0_0 0 = 0 ∧ win0_5.index t0_0 1 = 0 := by decide
theorem index_6 : win0_6.index t0_0 0 = 0 ∧ win0_6.index t0_0 1 = 0 := by decide
theorem index_7 : ∀ t : Fin cfg0.N, win0_7.index t 0 = t.val ∧ win0_7.index t 1 = 0 ∧ win0_7.index t 2 = 0 := by decide
theorem index_8 : ∀ t : Fin cfg0.N, win0_8.index t 0 = t.val ∧ win0_8.index t 1 = 0 ∧ win0_8.index t 2 = 0 := by decide

/-! ## The operands' blocks -/

theorem in0_apply (W : Vals F c) (t : Fin cfg0.N) (r : Fin 4608) (k : Fin 768) :
    in0 W t (ix2 r k) = (W main_v0 : S36864x768.Idx → F .f32) (ix2 (⟨t.val * 4608 + r.val, by have : t.val < 8 := t.isLt; omega⟩ : Fin 36864) k) := by
  show (W main_v0 : S36864x768.Idx → F .f32) ((win0_0.rect t).emb (ix2 r k)) = _
  refine congrArg (W main_v0 : S36864x768.Idx → F .f32) (funext fun a => Fin.ext ?_)
  match a with
  | ⟨0, _⟩ => exact (win0_0.rect_emb_val t _ 0).trans (by rw [(index_0 t).1]; rfl)
  | ⟨1, _⟩ => exact (win0_0.rect_emb_val t _ 1).trans (by rw [(index_0 t).2]; show 0 * 768 + k.val = k.val; omega)

theorem in1_apply (W : Vals F c) (t : Fin cfg0.N) (r : Fin 77) (k : Fin 6144) :
    in1 W t (ix2 r k) = (W main_v2 : S77x49152.Idx → F .f32) (ix2 r (⟨t.val * 6144 + k.val, by have : t.val < 8 := t.isLt; omega⟩ : Fin 49152)) := by
  show (W main_v2 : S77x49152.Idx → F .f32) ((win0_1.rect t).emb (ix2 r k)) = _
  refine congrArg (W main_v2 : S77x49152.Idx → F .f32) (funext fun a => Fin.ext ?_)
  match a with
  | ⟨0, _⟩ => exact (win0_1.rect_emb_val t _ 0).trans (by rw [(index_1 t).1]; show 0 * 77 + r.val = r.val; omega)
  | ⟨1, _⟩ => exact (win0_1.rect_emb_val t _ 1).trans (by rw [(index_1 t).2]; rfl)

theorem in2_apply (W : Vals F c) (r : Fin 768) (k : Fin 256) :
    in2 W (ix2 r k) = (W main_arg2 : S1536x256.Idx → F .f32) (ix2 (⟨r.val, by omega⟩ : Fin 1536) k) := by
  show (W main_arg2 : S1536x256.Idx → F .f32) ((win0_2.rect t0_0).emb (ix2 r k)) = _
  refine congrArg (W main_arg2 : S1536x256.Idx → F .f32) (funext fun a => Fin.ext ?_)
  match a with
  | ⟨0, _⟩ => exact (win0_2.rect_emb_val t0_0 _ 0).trans (by rw [index_2.1]; show 0 * 768 + r.val = r.val; omega)
  | ⟨1, _⟩ => exact (win0_2.rect_emb_val t0_0 _ 1).trans (by rw [index_2.2]; show 0 * 256 + k.val = k.val; omega)

theorem in3_apply (W : Vals F c) (r : Fin 768) (k : Fin 256) :
    in3 W (ix2 r k) = (W main_arg2 : S1536x256.Idx → F .f32) (ix2 (⟨768 + r.val, by omega⟩ : Fin 1536) k) := by
  show (W main_arg2 : S1536x256.Idx → F .f32) ((win0_3.rect t0_0).emb (ix2 r k)) = _
  refine congrArg (W main_arg2 : S1536x256.Idx → F .f32) (funext fun a => Fin.ext ?_)
  match a with
  | ⟨0, _⟩ => exact (win0_3.rect_emb_val t0_0 _ 0).trans (by rw [index_3.1]; show 1 * 768 + r.val = 768 + r.val; omega)
  | ⟨1, _⟩ => exact (win0_3.rect_emb_val t0_0 _ 1).trans (by rw [index_3.2]; show 0 * 256 + k.val = k.val; omega)

theorem in4_apply (W : Vals F c) (r : Fin 1) (k : Fin 256) : in4 W (ix2 r k) = (W main_v3 : S1x256.Idx → F .f32) (ix2 r k) := by
  show (W main_v3 : S1x256.Idx → F .f32) ((win0_4.rect t0_0).emb (ix2 r k)) = _
  refine congrArg (W main_v3 : S1x256.Idx → F .f32) (funext fun a => Fin.ext ?_)
  match a with
  | ⟨0, _⟩ => exact (win0_4.rect_emb_val t0_0 _ 0).trans (by rw [index_4.1]; show 0 * 1 + r.val = r.val; omega)
  | ⟨1, _⟩ => exact (win0_4.rect_emb_val t0_0 _ 1).trans (by rw [index_4.2]; show 0 * 256 + k.val = k.val; omega)

theorem in5_apply (W : Vals F c) (r : Fin 256) (k : Fin 1) : in5 W (ix2 r k) = (W main_arg4 : S256x1.Idx → F .f32) (ix2 r k) := by
  show (W main_arg4 : S256x1.Idx → F .f32) ((win0_5.rect t0_0).emb (ix2 r k)) = _
  refine congrArg (W main_arg4 : S256x1.Idx → F .f32) (funext fun a => Fin.ext ?_)
  match a with
  | ⟨0, _⟩ => exact (win0_5.rect_emb_val t0_0 _ 0).trans (by rw [index_5.1]; show 0 * 256 + r.val = r.val; omega)
  | ⟨1, _⟩ => exact (win0_5.rect_emb_val t0_0 _ 1).trans (by rw [index_5.2]; show 0 * 1 + k.val = k.val; omega)

theorem in6_apply (W : Vals F c) (r : Fin 1) (k : Fin 1) : in6 W (ix2 r k) = (W main_v4 : S1x1.Idx → F .f32) (ix2 r k) := by
  show (W main_v4 : S1x1.Idx → F .f32) ((win0_6.rect t0_0).emb (ix2 r k)) = _
  refine congrArg (W main_v4 : S1x1.Idx → F .f32) (funext fun a => Fin.ext ?_)
  match a with
  | ⟨0, _⟩ => exact (win0_6.rect_emb_val t0_0 _ 0).trans (by rw [index_6.1]; show 0 * 1 + r.val = r.val; omega)
  | ⟨1, _⟩ => exact (win0_6.rect_emb_val t0_0 _ 1).trans (by rw [index_6.2]; show 0 * 1 + k.val = k.val; omega)

/-! ## The two arrays -/

/-- The point and the row of its block that hold sample `b`. -/
def ptOf (b : Fin 64) : Fin cfg0.N := ⟨b.val / 8, by show b.val / 8 < 8; omega⟩
def rowOf (b : Fin 64) : Fin 8 := ⟨b.val % 8, Nat.mod_lt _ (by norm_num)⟩

def arr7 (W : Vals F c) : S64x1x96.Idx → BitVec 32 := fun i => out7 W (ptOf (i 0)) (ix3 (rowOf (i 0)) (i 1) (i 2))
def arr8 (W : Vals F c) : S64x1x96.Idx → BitVec 32 := fun i => out8 W (ptOf (i 0)) (ix3 (rowOf (i 0)) (i 1) (i 2))

theorem emb_7 (t : Fin cfg0.N) (y : S8x1x96.Idx) :
    ptOf ((win0_7.rect t).emb y 0) = t ∧ ix3 (rowOf ((win0_7.rect t).emb y 0)) ((win0_7.rect t).emb y 1) ((win0_7.rect t).emb y 2) = y := by
  have ht : t.val < 8 := t.isLt
  have h0 : ((win0_7.rect t).emb y 0).val = t.val * 8 + (y 0).val := (win0_7.rect_emb_val t y 0).trans (by rw [(index_7 t).1]; rfl)
  have h1 : ((win0_7.rect t).emb y 1).val = (y 1).val := (win0_7.rect_emb_val t y 1).trans (by rw [(index_7 t).2.1]; show 0 * 1 + _ = _; omega)
  have h2 : ((win0_7.rect t).emb y 2).val = (y 2).val := (win0_7.rect_emb_val t y 2).trans (by rw [(index_7 t).2.2]; show 0 * 96 + _ = _; omega)
  have hy : (y 0).val < 8 := (y 0).isLt
  refine ⟨Fin.ext ?_, funext fun a => Fin.ext ?_⟩
  · show ((win0_7.rect t).emb y 0).val / 8 = t.val; rw [h0]; omega
  · match a with
    | ⟨0, _⟩ => show ((win0_7.rect t).emb y 0).val % 8 = (y 0).val; rw [h0]; omega
    | ⟨1, _⟩ => exact h1
    | ⟨2, _⟩ => exact h2

theorem emb_8 (t : Fin cfg0.N) (y : S8x1x96.Idx) :
    ptOf ((win0_8.rect t).emb y 0) = t ∧ ix3 (rowOf ((win0_8.rect t).emb y 0)) ((win0_8.rect t).emb y 1) ((win0_8.rect t).emb y 2) = y := by
  have ht : t.val < 8 := t.isLt
  have h0 : ((win0_8.rect t).emb y 0).val = t.val * 8 + (y 0).val := (win0_8.rect_emb_val t y 0).trans (by rw [(index_8 t).1]; rfl)
  have h1 : ((win0_8.rect t).emb y 1).val = (y 1).val := (win0_8.rect_emb_val t y 1).trans (by rw [(index_8 t).2.1]; show 0 * 1 + _ = _; omega)
  have h2 : ((win0_8.rect t).emb y 2).val = (y 2).val := (win0_8.rect_emb_val t y 2).trans (by rw [(index_8 t).2.2]; show 0 * 96 + _ = _; omega)
  have hy : (y 0).val < 8 := (y 0).isLt
  refine ⟨Fin.ext ?_, funext fun a => Fin.ext ?_⟩
  · show ((win0_8.rect t).emb y 0).val / 8 = t.val; rw [h0]; omega
  · match a with
    | ⟨0, _⟩ => show ((win0_8.rect t).emb y 0).val % 8 = (y 0).val; rw [h0]; omega
    | ⟨1, _⟩ => exact h1
    | ⟨2, _⟩ => exact h2

theorem arr7_emb (W : Vals F c) (t : Fin cfg0.N) (y : S8x1x96.Idx) : arr7 W ((win0_7.rect t).emb y) = out7 W t y := by
  unfold arr7
  exact congrArg₂ (fun a b => out7 W a b) (emb_7 t y).1 (emb_7 t y).2

set_option maxRecDepth 8000 in
theorem read_7 (A : S64x1x96.Idx → BitVec 32) (t : Fin cfg0.N) (y : S8x1x96.Idx) :
    ((cfg0.win 7).blk t).view.read (Elt F) A y = A ((win0_7.rect t).emb y) := rfl

theorem flushed_7 (W : Vals F c) (t : Fin cfg0.N) : (dat0 W).flushed 7 t = ((cfg0.win 7).blk t).view.read (Elt F) (arr7 W) := by
  unfold Pipeline.Dat.flushed
  rw [after_7]
  funext y
  exact (arr7_emb W t y).symm.trans (read_7 (F := F) (arr7 W) t y).symm

theorem arr8_emb (W : Vals F c) (t : Fin cfg0.N) (y : S8x1x96.Idx) : arr8 W ((win0_8.rect t).emb y) = out8 W t y := by
  unfold arr8
  exact congrArg₂ (fun a b => out8 W a b) (emb_8 t y).1 (emb_8 t y).2

set_option maxRecDepth 8000 in
theorem read_8 (A : S64x1x96.Idx → BitVec 32) (t : Fin cfg0.N) (y : S8x1x96.Idx) :
    ((cfg0.win 8).blk t).view.read (Elt F) A y = A ((win0_8.rect t).emb y) := rfl

theorem flushed_8 (W : Vals F c) (t : Fin cfg0.N) : (dat0 W).flushed 8 t = ((cfg0.win 8).blk t).view.read (Elt F) (arr8 W) := by
  unfold Pipeline.Dat.flushed
  rw [after_8]
  funext y
  exact (arr8_emb W t y).symm.trans (read_8 (F := F) (arr8 W) t y).symm

theorem cover_7 (i : S64x1x96.Idx) : ∃ t : Fin cfg0.N, (cfg0.win 7).flush t = true ∧ i ∈ ((cfg0.win 7).blk t).view.set := by
  refine ⟨ptOf (i 0), flush0_7 _, ?_⟩
  have h0 : (i 0).val < 64 := (i 0).isLt
  have h1 : (i 1).val < 1 := (i 1).isLt
  have h2 : (i 2).val < 96 := (i 2).isLt
  show i ∈ ((View.whole main_v5_0).slice (win0_7.rect (ptOf (i 0)))).set
  rw [View.set_slice_whole, Rect.mem_set_unit]
  intro a
  match a with
  | ⟨0, _⟩ =>
    show win0_7.index (ptOf (i 0)) 0 * 8 ≤ (i 0).val ∧ (i 0).val < win0_7.index (ptOf (i 0)) 0 * 8 + 8
    rw [(index_7 _).1]; show (i 0).val / 8 * 8 ≤ _ ∧ _ < (i 0).val / 8 * 8 + 8; omega
  | ⟨1, _⟩ =>
    show win0_7.index (ptOf (i 0)) 1 * 1 ≤ (i 1).val ∧ (i 1).val < win0_7.index (ptOf (i 0)) 1 * 1 + 1
    rw [(index_7 _).2.1]; omega
  | ⟨2, _⟩ =>
    show win0_7.index (ptOf (i 0)) 2 * 96 ≤ (i 2).val ∧ (i 2).val < win0_7.index (ptOf (i 0)) 2 * 96 + 96
    rw [(index_7 _).2.2]; omega

theorem cover_8 (i : S64x1x96.Idx) : ∃ t : Fin cfg0.N, (cfg0.win 8).flush t = true ∧ i ∈ ((cfg0.win 8).blk t).view.set := by
  refine ⟨ptOf (i 0), flush0_8 _, ?_⟩
  have h0 : (i 0).val < 64 := (i 0).isLt
  have h1 : (i 1).val < 1 := (i 1).isLt
  have h2 : (i 2).val < 96 := (i 2).isLt
  show i ∈ ((View.whole main_v5_1).slice (win0_8.rect (ptOf (i 0)))).set
  rw [View.set_slice_whole, Rect.mem_set_unit]
  intro a
  match a with
  | ⟨0, _⟩ =>
    show win0_8.index (ptOf (i 0)) 0 * 8 ≤ (i 0).val ∧ (i 0).val < win0_8.index (ptOf (i 0)) 0 * 8 + 8
    rw [(index_8 _).1]; show (i 0).val / 8 * 8 ≤ _ ∧ _ < (i 0).val / 8 * 8 + 8; omega
  | ⟨1, _⟩ =>
    show win0_8.index (ptOf (i 0)) 1 * 1 ≤ (i 1).val ∧ (i 1).val < win0_8.index (ptOf (i 0)) 1 * 1 + 1
    rw [(index_8 _).2.1]; omega
  | ⟨2, _⟩ =>
    show win0_8.index (ptOf (i 0)) 2 * 96 ≤ (i 2).val ∧ (i 2).val < win0_8.index (ptOf (i 0)) 2 * 96 + 96
    rw [(index_8 _).2.2]; omega

theorem arrAt_7 (W : Vals F c) : (dat0 W).arrAt 7 cfg0.N = arr7 W := (dat0 W).arrAt_eq_of_cover 7 (arr7 W) (fun t _ => flushed_7 W t) cover_7
theorem arrAt_8 (W : Vals F c) : (dat0 W).arrAt 8 cfg0.N = arr8 W := (dat0 W).arrAt_eq_of_cover 8 (arr8 W) (fun t _ => flushed_8 W t) cover_8

theorem arr7_lt (W : Vals F c) (i : S64x1x96.Idx) : (arr7 W i).toNat < 576 := by
  unfold arr7 out7
  exact lidxOut_lt _ _

/-- A global row number is the sample's first row plus the local one. -/
theorem arr8_toNat (W : Vals F c) (i : S64x1x96.Idx) : (arr8 W i).toNat = (arr7 W i).toNat + (i 0).val * 576 := by
  have h0 : (i 0).val < 64 := (i 0).isLt
  have e : (grid0.coords (ptOf (i 0)) 0).val = (i 0).val / 8 := coords_val _
  unfold arr8 out8 arr7 out7
  rw [e, gidxOut_toNat _ (by omega)]
  show _ + ((i 0).val / 8 * 8 + (i 0).val % 8) * 576 = _
  omega

theorem arr8_lt (W : Vals F c) (i : S64x1x96.Idx) : (arr8 W i).toNat < 36864 := by
  rw [arr8_toNat]
  have h := arr7_lt W i
  have h0 : (i 0).val < 64 := (i 0).isLt
  omega

end Cert.Proof.Score

end
-- ==== Proof.Reads.lean ====
/-
  The arrays along the whole program's run, each read as a function of the arguments.
-/
module

public import proofs.«01_k».proof.Proof.Run
public import proofs.«01_k».proof.Proof.Outs

@[expose] public section

noncomputable section

namespace Cert.Proof.Gather

open Cert.KernelIdeal Cert.KernelIdeal.Gen
open Cert.Proof.Score
open Idealize.ShloMosaic

variable {F : FTy → Type} [FloatOps F] (m : (ℓ : Loc nD τ sig) → Buf (Elt F) ℓ) (d : Dev nD)

/-! ## Before the pipeline -/

theorem V5_of_ne (b : DevRef τ sig) (h0 : b ∉ ({v0'} : Finset (DevRef τ sig))) (h1 : b ∉ ({v1'} : Finset (DevRef τ sig)))
    (h2 : b ∉ ({v2'} : Finset (DevRef τ sig))) (h3 : b ∉ ({v3'} : Finset (DevRef τ sig))) (h4 : b ∉ ({v4'} : Finset (DevRef τ sig))) :
    V5 m d b = m (d, b) := by
  unfold V5
  rw [(op4 (F := F)).result_of_not_mem _ h4, (op3 (F := F)).result_of_not_mem _ h3, (op2 (F := F)).result_of_not_mem _ h2,
    (op1 (F := F)).result_of_not_mem _ h1, (op0 (F := F)).result_of_not_mem _ h0]
  rfl

theorem V5_v0 : V5 m d v0' = shapeCast S36864x768 (m (d, a0') : S64x576x768.Idx → F .f32) shapeCasts_S64x576x768_S36864x768 := by
  unfold V5
  rw [(op4 (F := F)).result_of_not_mem _ (show v0' ∉ ({v4'} : Finset (DevRef τ sig)) by decide), (op3 (F := F)).result_of_not_mem _ (show v0' ∉ ({v3'} : Finset (DevRef τ sig)) by decide),
    (op2 (F := F)).result_of_not_mem _ (show v0' ∉ ({v2'} : Finset (DevRef τ sig)) by decide), (op1 (F := F)).result_of_not_mem _ (show v0' ∉ ({v1'} : Finset (DevRef τ sig)) by decide)]
  exact StableHlo.reshape_result _ _ _ _ _ _ _

theorem V5_v2 : V5 m d v2' = shapeCast S77x49152 (transpose S77x64x768 [1, 0, 2] (m (d, a1') : S64x77x768.Idx → F .f32) transposes_S64x77x768_S77x64x768_1_0_2) shapeCasts_S77x64x768_S77x49152 := by
  unfold V5
  rw [(op4 (F := F)).result_of_not_mem _ (show v2' ∉ ({v4'} : Finset (DevRef τ sig)) by decide), (op3 (F := F)).result_of_not_mem _ (show v2' ∉ ({v3'} : Finset (DevRef τ sig)) by decide)]
  refine (StableHlo.reshape_result _ _ _ _ _ _ _).trans ?_
  refine congrArg (fun z : S77x64x768.Idx → F .f32 => shapeCast S77x49152 z shapeCasts_S77x64x768_S77x49152) ?_
  refine (StableHlo.unary_result _ _ _ _ _ _).trans ?_
  refine congrArg (fun z : S64x77x768.Idx → F .f32 => transpose S77x64x768 [1, 0, 2] z transposes_S64x77x768_S77x64x768_1_0_2) ?_
  rw [(op0 (F := F)).result_of_not_mem _ (show a1' ∉ ({v0'} : Finset (DevRef τ sig)) by decide)]
  rfl

theorem V5_v3 : V5 m d v3' = shapeCast S1x256 (m (d, a3') : S256.Idx → F .f32) shapeCasts_S256_S1x256 := by
  unfold V5
  rw [(op4 (F := F)).result_of_not_mem _ (show v3' ∉ ({v4'} : Finset (DevRef τ sig)) by decide)]
  refine (StableHlo.reshape_result _ _ _ _ _ _ _).trans ?_
  rw [(op2 (F := F)).result_of_not_mem _ (show a3' ∉ ({v2'} : Finset (DevRef τ sig)) by decide), (op1 (F := F)).result_of_not_mem _ (show a3' ∉ ({v1'} : Finset (DevRef τ sig)) by decide),
    (op0 (F := F)).result_of_not_mem _ (show a3' ∉ ({v0'} : Finset (DevRef τ sig)) by decide)]
  rfl

theorem V5_v4 : V5 m d v4' = shapeCast S1x1 (m (d, a5') : S1.Idx → F .f32) shapeCasts_S1_S1x1 := by
  unfold V5
  refine (StableHlo.reshape_result _ _ _ _ _ _ _).trans ?_
  rw [(op3 (F := F)).result_of_not_mem _ (show a5' ∉ ({v3'} : Finset (DevRef τ sig)) by decide), (op2 (F := F)).result_of_not_mem _ (show a5' ∉ ({v2'} : Finset (DevRef τ sig)) by decide),
    (op1 (F := F)).result_of_not_mem _ (show a5' ∉ ({v1'} : Finset (DevRef τ sig)) by decide), (op0 (F := F)).result_of_not_mem _ (show a5' ∉ ({v0'} : Finset (DevRef τ sig)) by decide)]
  rfl

/-! ## At the call -/

theorem tabOf_eq : tabOf m d = shapeCast S36864x768 (m (d, a0') : S64x576x768.Idx → F .f32) shapeCasts_S64x576x768_S36864x768 := by
  unfold tabOf V7
  rw [(op6 (F := F)).result_of_not_mem _ (show v0' ∉ ({v6'} : Finset (DevRef τ sig)) by decide), V6_of_ne m d v0' (by decide) (by decide)]
  exact V5_v0 m d

theorem numOf_eq : numOf m d = arr8 (vals m d) := by
  unfold numOf V7
  rw [(op6 (F := F)).result_of_not_mem _ (show v51' ∉ ({v6'} : Finset (DevRef τ sig)) by decide)]
  exact (V6_51 m d).trans (arrAt_8 _)

theorem regOf_eq : regOf m d = shapeCast S1x768 (m (d, a6') : S1x1x768.Idx → F .f32) shapeCasts_S1x1x768_S1x768 := by
  unfold regOf V7
  refine (StableHlo.reshape_result _ _ _ _ _ _ _).trans ?_
  rw [V6_of_ne m d a6' (by decide) (by decide), V5_of_ne m d a6' (by decide) (by decide) (by decide) (by decide) (by decide)]
  rfl

/-- Every row number the pipeline hands over names a row of the table. -/
theorem numOf_lt (j : S64x1x96.Idx) : (numOf m d j : BitVec 32).toNat < 36864 := by
  rw [numOf_eq]; exact arr8_lt _ j

/-! ## At the end -/

theorem V8_of_ne (b : DevRef τ sig) (h7 : b ≠ v7') (h6 : b ∉ ({v6'} : Finset (DevRef τ sig))) : V8 m d b = V6 m d b := by
  unfold V8 V7
  rw [Function.update_of_ne h7, (op6 (F := F)).result_of_not_mem _ h6]

theorem V10_v9 : V10 m d v9' = shapeCast S64x96 (arr7 (vals m d)) shapeCasts_S64x1x96_S64x96 := by
  unfold V10
  refine (StableHlo.reshape_result _ _ _ _ _ _ _).trans ?_
  refine congrArg (fun z : S64x1x96.Idx → BitVec 32 => shapeCast S64x96 z shapeCasts_S64x1x96_S64x96) ?_
  rw [(op8 (F := F)).result_of_not_mem _ (show v50' ∉ ({v8'} : Finset (DevRef τ sig)) by decide), V8_of_ne m d v50' (by decide) (by decide)]
  exact (V6_50 m d).trans (arrAt_7 _)

theorem V10_v8 : V10 m d v8' = transpose S64x97x768 [1, 0, 2] (outOf (tabOf m d) (numOf m d) (regOf m d)) transposes_S97x64x768_S64x97x768_1_0_2 := by
  unfold V10
  rw [(op9 (F := F)).result_of_not_mem _ (show v8' ∉ ({v9'} : Finset (DevRef τ sig)) by decide)]
  refine (StableHlo.unary_result _ _ _ _ _ _).trans ?_
  refine congrArg (fun z : S97x64x768.Idx → F .f32 => transpose S64x97x768 [1, 0, 2] z transposes_S97x64x768_S64x97x768_1_0_2) ?_
  unfold V8
  rw [Function.update_self]

/-- An array that no operation writes ends as it began. -/
theorem V10_of_ne (b : DevRef τ sig) (h : b ∉ ({v0', v1', v2', v3', v4', v50', v51', v6', v7', v8', v9'} : Finset (DevRef τ sig))) :
    V10 m d b = m (d, b) := by
  simp only [Finset.mem_insert, Finset.mem_singleton, not_or] at h
  obtain ⟨h0, h1, h2, h3, h4, h50, h51, h6, h7, h8, h9⟩ := h
  unfold V10
  rw [(op9 (F := F)).result_of_not_mem _ (show b ∉ ({v9'} : Finset (DevRef τ sig)) from fun e => h9 (Finset.mem_singleton.mp e)),
    (op8 (F := F)).result_of_not_mem _ (show b ∉ ({v8'} : Finset (DevRef τ sig)) from fun e => h8 (Finset.mem_singleton.mp e)),
    V8_of_ne m d b h7 (fun e => h6 (Finset.mem_singleton.mp e)), V6_of_ne m d b h50 h51,
    V5_of_ne m d b (fun e => h0 (Finset.mem_singleton.mp e)) (fun e => h1 (Finset.mem_singleton.mp e)) (fun e => h2 (Finset.mem_singleton.mp e))
      (fun e => h3 (Finset.mem_singleton.mp e)) (fun e => h4 (Finset.mem_singleton.mp e))]

/-- What a device's memory holds when the program has returned: its two results, and its arguments unchanged. -/
theorem run_results [∀ e, Nonempty (Elt F e)] (ρ : Dev nD → PrngReg) :
    θ_run (Cert.KernelIdeal.defs (F := F)) (Cert.KernelIdeal.threads (F := F)) ⟨m, fun _ => 0, ρ⟩ fun r =>
      (∀ c : Dev nD, r.2.mem (c, v8') = V10 m c v8' ∧ r.2.mem (c, v9') = V10 m c v9' ∧ r.2.mem (c, a0') = m (c, a0') ∧ r.2.mem (c, a1') = m (c, a1')
        ∧ r.2.mem (c, a2') = m (c, a2') ∧ r.2.mem (c, a3') = m (c, a3') ∧ r.2.mem (c, a4') = m (c, a4') ∧ r.2.mem (c, a5') = m (c, a5') ∧ r.2.mem (c, a6') = m (c, a6'))
        ∧ r.2.sem = fun _ => 0 :=
  (θ_run (Cert.KernelIdeal.defs (F := F)) _ _).mono (fun r h => ⟨fun c => ⟨h.1 c v8' (by decide), h.1 c v9' (by decide),
      (h.1 c a0' (by decide)).trans (V10_of_ne m c a0' (by decide)), (h.1 c a1' (by decide)).trans (V10_of_ne m c a1' (by decide)),
      (h.1 c a2' (by decide)).trans (V10_of_ne m c a2' (by decide)), (h.1 c a3' (by decide)).trans (V10_of_ne m c a3' (by decide)),
      (h.1 c a4' (by decide)).trans (V10_of_ne m c a4' (by decide)), (h.1 c a5' (by decide)).trans (V10_of_ne m c a5' (by decide)),
      (h.1 c a6' (by decide)).trans (V10_of_ne m c a6' (by decide))⟩, h.2⟩)
    (run_main m ρ fun e j => numOf_lt m e j)

end Cert.Proof.Gather

end
-- ==== Proof.RefTop.lean ====
/-
  The reference's selection at the ideal values: the indices of the ninety-six largest scores of each row, the first of
  equal ones first, sorted ascending.
-/
module

public import Idealize.ShloMosaic.Lib.Pointwise.Select
public import Idealize.ShloMosaic.Lib.Pipeline.Value
public import Idealize.ShloMosaic.Lib.SortFacts
public import Idealize.ShloMosaic.PureOps.Ideal.Laws
public import proofs.«01_k».proof.Proof.Gen.ReferenceIdeal
public import proofs.«01_k».proof.Proof.Count
public import proofs.«01_k».proof.Proof.Select

@[expose] public section

noncomputable section

namespace Cert.Proof.RefTop

open Cert.ReferenceIdeal Cert.ReferenceIdeal.Gen
open Cert.Proof.Count
open Idealize.ShloMosaic

/-- The indices of each row's ninety-six largest entries, largest first. -/
def topIdx (x : S64x576.Idx → EReal) : IVec S64x96 32 := (Host.topK S64x96 1 (FloatOps.cmpfTotal (F := Ideal) (φ := .f32) .gt) x sliceFits_S64x576_S64x96).2

/-- The same indices, ascending. -/
def refTop (x : S64x576.Idx → EReal) : IVec S64x96 32 := Host.sort S64x96 1 comparator_i32_d1 (topIdx x)

/-! ## Ranks -/

/-- How many entries lie below entry `j`. -/
def rk {n : ℕ} (x : Fin n → EReal) (j : Fin n) : ℕ := cnt fun i => x i < x j

theorem rk_lt {n : ℕ} (x : Fin n → EReal) {i j : Fin n} (h : x i < x j) : rk x i < rk x j := by
  unfold rk cnt
  refine Finset.card_lt_card (Finset.ssubset_iff_subset_ne.mpr ⟨fun a ha => ?_, fun e => ?_⟩)
  · simp only [Finset.mem_filter, Finset.mem_univ, true_and] at ha ⊢; exact ha.trans h
  · have : i ∈ Finset.univ.filter fun a => x a < x j := by simpa using h
    rw [← e] at this
    simp at this
theorem rk_eq {n : ℕ} (x : Fin n → EReal) {i j : Fin n} (h : x i = x j) : rk x i = rk x j := by
  unfold rk; rw [h]
theorem rk_bound {n : ℕ} (x : Fin n → EReal) (j : Fin n) : rk x j < n := by
  have h : rk x j < (Finset.univ : Finset (Fin n)).card := by
    unfold rk cnt
    refine Finset.card_lt_card (Finset.ssubset_iff_subset_ne.mpr ⟨Finset.subset_univ _, fun e => ?_⟩)
    have : j ∈ Finset.univ.filter fun a => x a < x j := by rw [e]; exact Finset.mem_univ j
    simp at this
  simpa using h

/-! ## The sort by value -/

/-- The order in which the reference lists a row. -/
def ahead {n : ℕ} (x : Fin n → EReal) (k k' : Fin n) : Bool := FloatOps.cmpfTotal (F := Ideal) (φ := .f32) .gt (x k) (x k') == 1#1

theorem ahead_iff {n : ℕ} (x : Fin n → EReal) (k k' : Fin n) : ahead x k k' = true ↔ x k' < x k := by
  unfold ahead
  rw [beq_iff_eq]
  exact Ideal.cmp_ogt_eq_one _ _
theorem ahead_false {n : ℕ} (x : Fin n → EReal) (k k' : Fin n) : ahead x k k' = false ↔ x k ≤ x k' := by
  rw [← Bool.not_eq_true, ahead_iff, not_lt]

theorem along_row {n0 n1 : ℕ} (b : Fin n0) (j k : Fin n1) : (ix2 b j : (⟨2, ![n0, n1]⟩ : Shape).Idx).along 1 k = ix2 b k := by
  funext a
  match a with
  | ⟨0, _⟩ => rfl
  | ⟨1, _⟩ => rfl

theorem slice_apply (z : IVec S64x576 32) (b : Fin 64) (k : Fin 96) :
    extractStridedSlice S64x96 (fun _ => 0) z sliceFits_S64x576_S64x96 (ix2 b k) = z (ix2 b ⟨k.val, by omega⟩) :=
  extractStridedSlice_apply _ _ _ _ (ix2 (n0 := 64) (n1 := 576) b ⟨k.val, by omega⟩) (fun a => match a with | 0 => (Nat.zero_add b.val).symm | 1 => (Nat.zero_add k.val).symm)

theorem sort2_apply (x : S64x576.Idx → EReal) (y : IVec S64x576 32) (b : Fin 64) (q : Fin 576) :
    (Host.sort2 S64x576 1 (fun (l r : EReal × BitVec 32) => FloatOps.cmpfTotal (F := Ideal) (φ := .f32) .gt l.1 r.1) x y).2 (ix2 b q)
      = y (ix2 b (sortedFrom (ahead fun j : Fin 576 => x (ix2 b j)) q)) := by
  have e : ∀ j : Fin 576, (ix2 (n0 := 64) (n1 := 576) b q).along 1 j = ix2 b j := fun j => along_row b _ j
  unfold Host.sort2
  rw [dif_pos (show 1 < S64x576.rank by decide)]
  show y ((ix2 (n0 := 64) (n1 := 576) b q).along 1
    (sortedFrom (fun a a' : Fin 576 => FloatOps.cmpfTotal (F := Ideal) (φ := .f32) .gt (x ((ix2 (n0 := 64) (n1 := 576) b q).along 1 a)) (x ((ix2 (n0 := 64) (n1 := 576) b q).along 1 a')) == 1#1) q)) = _
  simp only [e]
  exact congrArg y (along_row b q _)

theorem topIdx_eq (x : S64x576.Idx → EReal) :
    topIdx x = extractStridedSlice S64x96 (fun _ => 0)
      (Host.sort2 S64x576 1 (fun (l r : EReal × BitVec 32) => FloatOps.cmpfTotal (F := Ideal) (φ := .f32) .gt l.1 r.1) x
        (iotaInDim S64x576 32 (1 : Fin 2))).2 sliceFits_S64x576_S64x96 := by
  have hi : (fun i : S64x576.Idx => if hd : 1 < S64x576.rank then iotaInDim S64x576 32 ⟨1, hd⟩ i else 0#32) = iotaInDim S64x576 32 (1 : Fin 2) :=
    funext fun i => dif_pos (show 1 < S64x576.rank by decide)
  exact congrArg (fun z => extractStridedSlice S64x96 (fun _ => 0)
      (Host.sort2 S64x576 1 (fun (l r : EReal × BitVec 32) => FloatOps.cmpfTotal (F := Ideal) (φ := .f32) .gt l.1 r.1) x z).2 sliceFits_S64x576_S64x96) hi

theorem topIdx_apply (x : S64x576.Idx → EReal) (b : Fin 64) (k : Fin 96) :
    topIdx x (ix2 b k) = BitVec.ofNat 32 (sortedFrom (ahead fun j : Fin 576 => x (ix2 b j)) (k.castLE (by norm_num))).val :=
  (congrFun (topIdx_eq x) _).trans ((slice_apply _ b k).trans (sort2_apply x _ b _))

theorem sort_apply (y : IVec S64x96 32) (b : Fin 64) (k : Fin 96) :
    Host.sort S64x96 1 comparator_i32_d1 y (ix2 b k)
      = y (ix2 b (sortedFrom (fun a a' : Fin 96 => comparator_i32_d1 (y (ix2 b a)) (y (ix2 b a')) == 1#1) k)) := by
  have e : ∀ j : Fin 96, (ix2 (n0 := 64) (n1 := 96) b k).along 1 j = ix2 b j := fun j => along_row b _ j
  unfold Host.sort
  rw [dif_pos (show 1 < S64x96.rank by decide)]
  show y ((ix2 (n0 := 64) (n1 := 96) b k).along 1
    (sortedFrom (fun a a' : Fin 96 => comparator_i32_d1 (y ((ix2 (n0 := 64) (n1 := 96) b k).along 1 a)) (y ((ix2 (n0 := 64) (n1 := 96) b k).along 1 a')) == 1#1) k)) = _
  simp only [e]
  exact congrArg y (along_row b k _)

theorem less_iff (u v : BitVec 32) (hu : u.toNat < 576) (hv : v.toNat < 576) : (comparator_i32_d1 u v == 1#1) = true ↔ u.toNat < v.toNat := by
  have hb : ∀ p : Bool, BitVec.ofBool p = 1#1 ↔ p = true := by decide
  rw [beq_iff_eq]
  show BitVec.ofBool (u.slt v) = 1#1 ↔ _
  rw [hb, BitVec.slt_eq_decide, decide_eq_true_eq, BitVec.toInt_eq_toNat_cond, BitVec.toInt_eq_toNat_cond]
  split_ifs <;> omega

/-! ## The list -/

/-- A row's order lists the entries so that each beats all after it. -/
theorem order_beats (x : Fin 576 → EReal) (a c : Fin 576) (hac : a < c) :
    Beats (rk x) (sortedFrom (ahead x) a) (sortedFrom (ahead x) c) := by
  obtain ⟨h1, h2⟩ := sortedFrom_fits (ahead x) (fun a c h => by rw [ahead_false]; exact ((ahead_iff x _ _).mp h).le)
    (fun a c d h h' => by rw [ahead_false] at h h' ⊢; exact h.trans h') a c hac
  generalize sortedFrom (ahead x) a = u at h1 h2 ⊢
  generalize sortedFrom (ahead x) c = v at h1 h2 ⊢
  rw [ahead_false] at h1
  rw [ahead_iff] at h2
  rcases h1.lt_or_eq with h | h
  · exact Or.inl (rk_lt x h)
  · refine Or.inr ⟨(rk_eq x h).symm, ?_⟩
    rcases h2 with h2 | h2
    · exact absurd h2 (by rw [h]; exact lt_irrefl _)
    · exact h2

theorem beats_asymm {n : ℕ} (key : Fin n → ℕ) (a c : Fin n) (h : Beats key a c) : ¬ Beats key c a := by
  intro h'
  rcases h with h | ⟨h, hh⟩ <;> rcases h' with h' | ⟨h', hh'⟩
  · omega
  · omega
  · omega
  · exact absurd (hh.trans hh') (lt_irrefl _)
theorem beats_irrefl {n : ℕ} (key : Fin n → ℕ) (a : Fin n) : ¬ Beats key a a := fun h => beats_asymm key a a h h

theorem order_cnt (x : Fin 576 → EReal) (r : Fin 576) : cnt (fun i => Beats (rk x) i (sortedFrom (ahead x) r)) = r.val :=
  cnt_before (Beats (rk x)) (beats_asymm (rk x)) (beats_irrefl (rk x)) _ ⟨sortedFrom_injective _, sortedFrom_surjective _⟩ (order_beats x) r

/-- The first ninety-six of an order of the entries, listed ascending. -/
theorem list_spec (B : Fin 576 → Fin 576 → Prop) [∀ i j, Decidable (B i j)] (σ : Fin 576 → Fin 576) (hσ : Function.Bijective σ)
    (hcnt : ∀ r, cnt (fun i => B i (σ r)) = r.val) (τ : Fin 96 → Fin 96) (hτ : Function.Bijective τ)
    (hle : ∀ a c, a < c → (σ ((τ a).castLE (by norm_num))).val ≤ (σ ((τ c).castLE (by norm_num))).val) :
    StrictMono (fun k => σ ((τ k).castLE (by norm_num))) ∧ ∀ j, cnt (fun i => B i j) < 96 ↔ ∃ a, σ ((τ a).castLE (by norm_num)) = j := by
  refine ⟨fun a c hac => lt_of_le_of_ne (hle a c hac) fun e => ?_, fun j => ?_⟩
  · have h1 := congrArg Fin.val (hσ.1 e)
    exact absurd (hτ.1 (Fin.ext h1)) hac.ne
  · obtain ⟨r, rfl⟩ := hσ.2 j
    rw [hcnt]
    constructor
    · intro h
      obtain ⟨a, ha⟩ := hτ.2 ⟨r.val, h⟩
      exact ⟨a, congrArg σ (Fin.ext (show (τ a).val = r.val by rw [ha]))⟩
    · rintro ⟨a, ha⟩
      have e : (τ a).val = r.val := congrArg Fin.val (hσ.1 ha)
      have h96 := (τ a).isLt
      omega

theorem sort_le (y : Fin 96 → BitVec 32) (hy : ∀ a, (y a).toNat < 576) (a c : Fin 96) (hac : a < c) :
    (y (sortedFrom (fun a a' : Fin 96 => comparator_i32_d1 (y a) (y a') == 1#1) a)).toNat
      ≤ (y (sortedFrom (fun a a' : Fin 96 => comparator_i32_d1 (y a) (y a') == 1#1) c)).toNat := by
  have hR : ∀ a a', (comparator_i32_d1 (y a) (y a') == 1#1) = false ↔ (y a').toNat ≤ (y a).toNat := fun a a' => by
    rw [← Bool.not_eq_true, less_iff _ _ (hy a) (hy a'), not_lt]
  have h := (sortedFrom_fits (fun a a' : Fin 96 => comparator_i32_d1 (y a) (y a') == 1#1)
    (fun a c h => by rw [hR]; exact ((less_iff _ _ (hy a) (hy c)).mp h).le)
    (fun a c d h h' => by rw [hR] at h h' ⊢; exact h'.trans h) a c hac).1
  exact (hR _ _).mp h

/-- The reference's indices at a row: an ascending list of the entries that fewer than ninety-six others beat. -/
theorem refTop_spec (x : S64x576.Idx → EReal) (b : Fin 64) :
    ∃ f : Fin 96 → Fin 576, StrictMono f ∧ (∀ j, cnt (fun i => Beats (rk fun j : Fin 576 => x (ix2 b j)) i j) < 96 ↔ ∃ a, f a = j)
      ∧ ∀ k, (refTop x (ix2 b k)).toNat = (f k).val := by
  have hσ : Function.Bijective (sortedFrom (ahead fun j : Fin 576 => x (ix2 b j))) := ⟨sortedFrom_injective _, sortedFrom_surjective _⟩
  have hcnt := order_cnt (fun j : Fin 576 => x (ix2 b j))
  have hy : ∀ a : Fin 96, (topIdx x (ix2 b a)).toNat = (sortedFrom (ahead fun j : Fin 576 => x (ix2 b j)) (a.castLE (by norm_num))).val := fun a => by
    rw [topIdx_apply, BitVec.toNat_ofNat]
    exact Nat.mod_eq_of_lt (lt_trans (Fin.isLt _) (by norm_num))
  generalize sortedFrom (ahead fun j : Fin 576 => x (ix2 b j)) = σ at hσ hcnt hy
  have hle := sort_le (fun a => topIdx x (ix2 b a)) (fun a => by rw [hy]; exact Fin.isLt _)
  have hτ : Function.Bijective (sortedFrom fun a a' : Fin 96 => comparator_i32_d1 (topIdx x (ix2 b a)) (topIdx x (ix2 b a')) == 1#1) :=
    ⟨sortedFrom_injective _, sortedFrom_surjective _⟩
  have hs := sort_apply (topIdx x) b
  generalize sortedFrom (fun a a' : Fin 96 => comparator_i32_d1 (topIdx x (ix2 b a)) (topIdx x (ix2 b a')) == 1#1) = τ at hτ hle hs
  obtain ⟨h1, h2⟩ := list_spec _ σ hσ hcnt τ hτ (fun a c hac => by rw [← hy, ← hy]; exact hle a c hac)
  exact ⟨_, h1, h2, fun k => (congrArg BitVec.toNat (hs k)).trans (hy _)⟩

end Cert.Proof.RefTop

end
-- ==== Proof.Score.lean ====
/-
  The scores at the ideal values: one formula, which the scoring block's score and the reference's both are.
-/
module

public import Idealize.ShloMosaic.Lib.Pointwise
public import Idealize.ShloMosaic.Lib.Pipeline.Value
public import Idealize.ShloMosaic.PureOps.Ideal.Laws
public import proofs.«01_k».proof.Proof.Sel

@[expose] public section

noncomputable section

namespace Cert.Proof.Score

open Cert.KernelIdeal Cert.KernelIdeal.Gen
open Idealize.ShloMosaic

/-! ## The formula -/

/-- A hidden unit: its dense part, its text part, its bias, floored at zero. -/
def hidden (dn tx b : EReal) : EReal := max (dn + tx + b) 0

/-- A score, from the dense row, the mean text row and the two layers' weights. -/
def scoreOf (x m : Fin 768 → EReal) (wd wt : Fin 768 → Fin 256 → EReal) (b1 w2 : Fin 256 → EReal) (b2 : EReal) : EReal :=
  Ideal.logistic ((∑ h, hidden (∑ k, x k * wd k h) (∑ k, m k * wt k h) (b1 h) * w2 h) + b2)

/-- A mean of seventy-seven values. -/
def mean77 (x : Fin 77 → EReal) : EReal := Ideal.div (∑ r, x r) (Ideal.ofBits .f32 0x429A0000#32)

/-! ## The block's score -/

variable (X1 : Vec Ideal S4608x768 .f32) (X2 : Vec Ideal S77x6144 .f32) (X3 X4 : Vec Ideal S768x256 .f32) (X5 : Vec Ideal S1x256 .f32) (X6 : Vec Ideal S256x1 .f32) (X7 : Vec Ideal S1x1 .f32)

theorem pay6_apply (r : Fin 4608) (h : Fin 256) : k0_pay6 X1 X3 (ix2 r h) = ∑ k : Fin 768, X1 (ix2 r k) * X3 (ix2 k h) := by
  have e : shapeCast S4608x768 X1 shapeCasts_S4608x768_S4608x768 = X1 := funext fun i => shapeCast_apply _ _ _ i rfl
  unfold k0_pay6
  simp only [e]
  simp only [pointwise]
  simp only [Ideal.ofBits_zero_f32, zero_add]

theorem pay7_apply (k : Fin 6144) : k0_pay7 X2 (ix2 (0 : Fin 1) k) = mean77 fun r => X2 (ix2 r k) := by
  have e : shapeCast S77x6144 X2 shapeCasts_S77x6144_S77x6144 = X2 := funext fun i => shapeCast_apply _ _ _ i rfl
  unfold k0_pay7 mean77
  simp only [e]
  refine congrArg (fun z => Ideal.div z _) ?_
  refine (shapeCast_apply _ _ _ (ix1 (n0 := 6144) k) ?_).trans ?_
  · exact (Shape.rowMajor_val_one _).trans (((rowMajor_val2 _ 6144 rfl).trans (by simp)).symm)
  · simp only [pointwise]

theorem colOf_apply (dn : FVec Ideal S576x256 .f32) (tx : FVec Ideal S1x768 .f32) (n : Fin 576) :
    colOf dn tx X4 X5 X6 (ix2 n (0 : Fin 1))
      = ∑ h : Fin 256, hidden (dn (ix2 n h)) (∑ k : Fin 768, tx (ix2 (0 : Fin 1) k) * X4 (ix2 k h)) (X5 (ix2 (0 : Fin 1) h)) * X6 (ix2 h (0 : Fin 1)) := by
  have e : shapeCast S1x256 X5 shapeCasts_S1x256_S1x256 = X5 := funext fun i => shapeCast_apply _ _ _ i rfl
  unfold colOf hidden
  simp only [e]
  simp only [pointwise]
  simp only [Ideal.ofBits_zero_f32, zero_add]
  simp

theorem colT_apply (t : Fin 8) (n : Fin 576) :
    colT X1 X2 X3 X4 X5 X6 t (ix2 n (0 : Fin 1))
      = ∑ h : Fin 256, hidden (∑ k : Fin 768, X1 (ix2 (⟨576 * t.val + n.val, by omega⟩ : Fin 4608) k) * X3 (ix2 k h))
          (∑ k : Fin 768, (mean77 fun r => X2 (ix2 r (⟨768 * t.val + k.val, by omega⟩ : Fin 6144))) * X4 (ix2 k h)) (X5 (ix2 (0 : Fin 1) h)) * X6 (ix2 h (0 : Fin 1)) := by
  unfold colT
  rw [colOf_apply]
  refine Finset.sum_congr rfl fun h _ => ?_
  have e1 : extractStridedSlice S576x256 ![576 * t.val, 0] (k0_pay6 X1 X3) (slD t) (ix2 n h) = ∑ k : Fin 768, X1 (ix2 (⟨576 * t.val + n.val, by omega⟩ : Fin 4608) k) * X3 (ix2 k h) :=
    (extractStridedSlice_apply _ _ _ _ (ix2 (⟨576 * t.val + n.val, by omega⟩ : Fin 4608) h) (fun a => match a with | 0 => rfl | 1 => (Nat.zero_add _).symm)).trans (pay6_apply X1 X3 _ h)
  have e2 : ∀ k : Fin 768, extractStridedSlice S1x768 ![0, 768 * t.val] (k0_pay7 X2) (slT t) (ix2 (0 : Fin 1) k) = mean77 fun r => X2 (ix2 r (⟨768 * t.val + k.val, by omega⟩ : Fin 6144)) := fun k =>
    (extractStridedSlice_apply _ _ _ _ (ix2 (0 : Fin 1) (⟨768 * t.val + k.val, by omega⟩ : Fin 6144)) (fun a => match a with | 0 => rfl | 1 => rfl)).trans (pay7_apply X2 _)
  rw [e1]
  simp only [e2]

theorem swap_apply (x : S576x8.Idx → EReal) (t : Fin 8) (n : Fin 576) :
    transpose S8x576 [1, 0] x transposes_S576x8_p1_0_S8x576 (ix2 t n) = x (ix2 n t) :=
  transpose_apply _ _ _ _ _ (fun b => match b with | 0 => rfl | 1 => rfl)

theorem scoreB_apply (t : Fin 8) (n : Fin 576) :
    scoreB X1 X2 X3 X4 X5 X6 X7 (ix2 t n)
      = scoreOf (fun k => X1 (ix2 (⟨576 * t.val + n.val, by omega⟩ : Fin 4608) k)) (fun k => mean77 fun r => X2 (ix2 r (⟨768 * t.val + k.val, by omega⟩ : Fin 6144)))
          (fun k h => X3 (ix2 k h)) (fun k h => X4 (ix2 k h)) (fun h => X5 (ix2 (0 : Fin 1) h)) (fun h => X6 (ix2 h (0 : Fin 1))) (X7 (ix2 (0 : Fin 1) (0 : Fin 1))) := by
  unfold scoreB scoreOf
  refine congrArg Ideal.logistic ?_
  refine congrArg₂ (fun a b : EReal => a + b) ?_ ?_
  · refine (swap_apply _ t n).trans ?_
    refine (concatenate_ofFn_unit_apply (t := S576x8) (s₁ := S576x1) (1 : Fin 2) (fun t : Fin 8 => colT X1 X2 X3 X4 X5 X6 t) concatenates_S576x1_S576x1_S576x1_S576x1_S576x1_S576x1_S576x1_S576x1_S576x8_d1
      rfl rfl (ix2 (n0 := 576) (n1 := 8) n t) t rfl (ix2 (n0 := 576) (n1 := 1) n 0) (fun b hb => match b, hb with | 0, _ => rfl | 1, hb => absurd rfl hb)).trans ?_
    exact colT_apply X1 X2 X3 X4 X5 X6 t n
  · exact congrArg X7 (funext fun a : Fin 2 => match a with | 0 => rfl | 1 => rfl)

end Cert.Proof.Score

end
-- ==== Proof.RefScore.lean ====
/-
  The reference's scores at the ideal values, by the one formula.
-/
module

public import Idealize.ShloMosaic.Lib.Pointwise
public import Idealize.ShloMosaic.Lib.IdealHost
public import Idealize.ShloMosaic.Lib.Pipeline.Value
public import proofs.«01_k».proof.Proof.Gen.ReferenceIdeal
public import proofs.«01_k».proof.Proof.Score

@[expose] public section

noncomputable section

namespace Cert.Proof.RefTop

open Cert.ReferenceIdeal Cert.ReferenceIdeal.Gen
open Cert.Proof.Score
open Idealize.ShloMosaic

variable (a0 : FVec Ideal S64x576x768 .f32) (a1 : FVec Ideal S64x77x768 .f32) (a2 : FVec Ideal S1536x256 .f32) (a3 : FVec Ideal S256 .f32) (a4 : FVec Ideal S256x1 .f32) (a5 : FVec Ideal S1 .f32)

/-- The mean text row, at every entry of its sample. -/
def refMean : FVec Ideal S64x576x768 .f32 :=
  broadcastInDim S64x576x768 ![0, 1, 2] bcast_S64x1x768_S64x576x768_0_1_2 (Host.divf (broadcastInDim S64x1x768 ![0, 2] bcast_S64x768_S64x1x768_0_2 (Host.reduceAdd a1 (constant S_ .f32 0x00000000#32) reducesTo_S64x77x768_S64x768_d1 h_S_)) (broadcastInDim S64x1x768 ![] bcast_S_S64x1x768 (constant S_ .f32 0x429A0000#32)))

def refCat : FVec Ideal S64x576x1536 .f32 :=
  concatenate S64x576x1536 2 [⟨S64x576x768, a0⟩, ⟨S64x576x768, refMean a1⟩] concatenates_S64x576x768_S64x576x768_S64x576x1536_d2

def refHid : FVec Ideal S64x576x256 .f32 :=
  maximumf (addf (Host.dotGeneral dot_S64x576x1536_S1536x256_S64x576x256_2_0_01_1_n_n none (refCat a0 a1) a2) (broadcastInDim S64x576x256 ![0, 1, 2] bcast_S1x1x256_S64x576x256_0_1_2 (broadcastInDim S1x1x256 ![2] bcast_S256_S1x1x256_2 a3))) (broadcastInDim S64x576x256 ![] bcast_S_S64x576x256 (constant S_ .f32 0x00000000#32))

def refOut : FVec Ideal S64x576x1 .f32 :=
  addf (Host.dotGeneral dot_S64x576x256_S256x1_S64x576x1_2_0_01_1_n_n none (refHid a0 a1 a2 a3) a4) (broadcastInDim S64x576x1 ![0, 1, 2] bcast_S1x1x1_S64x576x1_0_1_2 (broadcastInDim S1x1x1 ![2] bcast_S1_S1x1x1_2 a5))

def refScore : FVec Ideal S64x576 .f32 :=
  shapeCast S64x576 (Host.divf (broadcastInDim S64x576x1 ![] bcast_S_S64x576x1 (constant S_ .f32 0x3F800000#32)) (addf (broadcastInDim S64x576x1 ![] bcast_S_S64x576x1 (constant S_ .f32 0x3F800000#32)) (Host.exp (Host.negf (refOut a0 a1 a2 a3 a4 a5))))) shapeCasts_S64x576x1_S64x576

theorem refMean_apply (b : Fin 64) (n : Fin 576) (k : Fin 768) : refMean a1 (ix3 b n k) = mean77 fun r => a1 (ix3 b r k) := by
  unfold refMean mean77
  simp only [pointwise]
  simp

theorem refCat_left (b : Fin 64) (n : Fin 576) (k : Fin 768) : refCat a0 a1 (ix3 b n (⟨k.val, by omega⟩ : Fin 1536)) = a0 (ix3 b n k) := by
  unfold refCat
  exact concatenate_pair_apply_left (t := S64x576x1536) (s₁ := S64x576x768) (s₂ := S64x576x768) (2 : Fin 3) _ _ _ (ix3 (n0 := 64) (n1 := 576) (n2 := 1536) b n ⟨k.val, by omega⟩) rfl
    (ix3 b n k) (fun b => match b with | 0 => rfl | 1 => rfl | 2 => rfl)
theorem refCat_right (b : Fin 64) (n : Fin 576) (k : Fin 768) : refCat a0 a1 (ix3 b n (⟨768 + k.val, by omega⟩ : Fin 1536)) = mean77 fun r => a1 (ix3 b r k) := by
  unfold refCat
  refine (concatenate_pair_apply_right (t := S64x576x1536) (s₁ := S64x576x768) (s₂ := S64x576x768) (2 : Fin 3) _ _ _ (ix3 (n0 := 64) (n1 := 576) (n2 := 1536) b n ⟨768 + k.val, by omega⟩) rfl rfl
    (ix3 b n k) (fun b hb => match b, hb with | 0, _ => rfl | 1, _ => rfl | 2, hb => absurd rfl hb) (by show k.val + 768 = 768 + k.val; omega)).trans ?_
  exact refMean_apply a1 b n k

theorem refHid_apply (b : Fin 64) (n : Fin 576) (h : Fin 256) :
    refHid a0 a1 a2 a3 (ix3 b n h) = hidden (∑ k : Fin 768, a0 (ix3 b n k) * a2 (ix2 (⟨k.val, by omega⟩ : Fin 1536) h))
      (∑ k : Fin 768, (mean77 fun r => a1 (ix3 b r k)) * a2 (ix2 (⟨768 + k.val, by omega⟩ : Fin 1536) h)) (a3 (ix1 h)) := by
  have e : Host.dotGeneral dot_S64x576x1536_S1536x256_S64x576x256_2_0_01_1_n_n none (refCat a0 a1) a2 (ix3 b n h)
      = (∑ k : Fin 768, a0 (ix3 b n k) * a2 (ix2 (⟨k.val, by omega⟩ : Fin 1536) h))
        + ∑ k : Fin 768, (mean77 fun r => a1 (ix3 b r k)) * a2 (ix2 (⟨768 + k.val, by omega⟩ : Fin 1536) h) := by
    have e0 : Host.dotGeneral dot_S64x576x1536_S1536x256_S64x576x256_2_0_01_1_n_n none (refCat a0 a1) a2 (ix3 b n h)
        = ∑ k : Fin 1536, refCat a0 a1 (ix3 b n k) * a2 (ix2 k h) := by
      simp only [pointwise]
      simp
    rw [e0]
    refine (Fin.sum_univ_add (a := 768) (b := 768) (fun k : Fin (768 + 768) => refCat a0 a1 (ix3 b n (k : Fin 1536)) * a2 (ix2 (k : Fin 1536) h))).trans ?_
    refine congrArg₂ (fun u v : EReal => u + v) (Finset.sum_congr rfl fun k _ => ?_) (Finset.sum_congr rfl fun k _ => ?_)
    · exact congrArg (fun z => z * _) (refCat_left a0 a1 b n k)
    · exact congrArg (fun z => z * _) (refCat_right a0 a1 b n k)
  have e3 : broadcastInDim S64x576x256 ![0, 1, 2] bcast_S1x1x256_S64x576x256_0_1_2 (broadcastInDim S1x1x256 ![2] bcast_S256_S1x1x256_2 a3) (ix3 b n h) = a3 (ix1 h) :=
    (broadcastInDim_apply _ _ _ _ (ix3 (n0 := 1) (n1 := 1) (n2 := 256) 0 0 h) (fun a => match a with | 0 => rfl | 1 => rfl | 2 => rfl)).trans
      (broadcastInDim_apply _ _ _ _ (ix1 (n0 := 256) h) (fun a => match a with | 0 => rfl))
  have e4 : broadcastInDim S64x576x256 ![] bcast_S_S64x576x256 (constant (F := Ideal) S_ .f32 0x00000000#32) (ix3 b n h) = (0 : EReal) := Ideal.ofBits_zero_f32
  unfold refHid Score.hidden
  refine congrArg₂ (fun u v : EReal => max u v) (congrArg₂ (fun u v : EReal => u + v) e e3) e4

theorem refOut_apply (b : Fin 64) (n : Fin 576) :
    refOut a0 a1 a2 a3 a4 a5 (ix3 b n (0 : Fin 1)) = (∑ h : Fin 256, refHid a0 a1 a2 a3 (ix3 b n h) * a4 (ix2 h (0 : Fin 1))) + a5 (ix1 (0 : Fin 1)) := by
  have e : Host.dotGeneral dot_S64x576x256_S256x1_S64x576x1_2_0_01_1_n_n none (refHid a0 a1 a2 a3) a4 (ix3 b n (0 : Fin 1))
      = ∑ h : Fin 256, refHid a0 a1 a2 a3 (ix3 b n h) * a4 (ix2 h (0 : Fin 1)) := by
    simp only [pointwise]
    simp
  have e5 : broadcastInDim S64x576x1 ![0, 1, 2] bcast_S1x1x1_S64x576x1_0_1_2 (broadcastInDim S1x1x1 ![2] bcast_S1_S1x1x1_2 a5) (ix3 b n (0 : Fin 1)) = a5 (ix1 (0 : Fin 1)) :=
    (broadcastInDim_apply _ _ _ _ (ix3 (n0 := 1) (n1 := 1) (n2 := 1) 0 0 0) (fun a => match a with | 0 => rfl | 1 => rfl | 2 => rfl)).trans
      (broadcastInDim_apply _ _ _ _ (ix1 (n0 := 1) 0) (fun a => match a with | 0 => rfl))
  unfold refOut
  exact congrArg₂ (fun u v : EReal => u + v) e e5

/-- The reference's score of entry `n` of sample `b`. -/
theorem refScore_apply (b : Fin 64) (n : Fin 576) :
    refScore a0 a1 a2 a3 a4 a5 (ix2 b n)
      = scoreOf (fun k => a0 (ix3 b n k)) (fun k => mean77 fun r => a1 (ix3 b r k)) (fun k h => a2 (ix2 (⟨k.val, by omega⟩ : Fin 1536) h))
          (fun k h => a2 (ix2 (⟨768 + k.val, by omega⟩ : Fin 1536) h)) (fun h => a3 (ix1 h)) (fun h => a4 (ix2 h (0 : Fin 1))) (a5 (ix1 (0 : Fin 1))) := by
  have e1 : broadcastInDim S64x576x1 ![] bcast_S_S64x576x1 (constant (F := Ideal) S_ .f32 0x3F800000#32) (ix3 b n (0 : Fin 1)) = (1 : EReal) := Ideal.ofBits_one_f32
  have eo : refOut a0 a1 a2 a3 a4 a5 (ix3 b n (0 : Fin 1)) = (∑ h : Fin 256, hidden (∑ k : Fin 768, a0 (ix3 b n k) * a2 (ix2 (⟨k.val, by omega⟩ : Fin 1536) h))
      (∑ k : Fin 768, (mean77 fun r => a1 (ix3 b r k)) * a2 (ix2 (⟨768 + k.val, by omega⟩ : Fin 1536) h)) (a3 (ix1 h)) * a4 (ix2 h (0 : Fin 1))) + a5 (ix1 (0 : Fin 1)) := by
    rw [refOut_apply]; simp only [refHid_apply]
  unfold refScore scoreOf Ideal.logistic
  refine (shapeCast_apply _ _ _ (ix3 (n0 := 64) (n1 := 576) (n2 := 1) b n 0) (((rowMajor_val3 _ 576 1 rfl rfl).trans (by simp)).trans (rowMajor_val2 _ 576 rfl).symm)).trans ?_
  exact congrArg₂ Ideal.div e1 (congrArg₂ (fun u v : EReal => u + v) e1 (congrArg (fun z : EReal => Ideal.exp (-z)) eo))

end Cert.Proof.RefTop

end
-- ==== Proof.Link.lean ====
/-
  The scoring pipeline at the ideal values: a block's scores are the reference's, and so the positions it selects are.
-/
module

public import proofs.«01_k».proof.Proof.Reads
public import proofs.«01_k».proof.Proof.RefTop
public import proofs.«01_k».proof.Proof.RefScore
public import proofs.«01_k».proof.Proof.Gen.ReferenceIdeal.Run
public import proofs.«01_k».proof.Proof.Value

@[expose] public section

noncomputable section

namespace Cert.Proof.Gather

open Cert.KernelIdeal Cert.KernelIdeal.Gen
open Cert.Proof.Score Cert.Proof.Count Cert.Proof.RefTop
open Idealize.ShloMosaic

theorem scoreOf_congr {x x' mm mm' : Fin 768 → EReal} {wd wd' wt wt' : Fin 768 → Fin 256 → EReal} {b1 b1' w2 w2' : Fin 256 → EReal} {b2 b2' : EReal}
    (h0 : ∀ k, x k = x' k) (h1 : ∀ k, mm k = mm' k) (h2 : ∀ k h, wd k h = wd' k h) (h3 : ∀ k h, wt k h = wt' k h)
    (h4 : ∀ h, b1 h = b1' h) (h5 : ∀ h, w2 h = w2' h) (h6 : b2 = b2') : scoreOf x mm wd wt b1 w2 b2 = scoreOf x' mm' wd' wt' b1' w2' b2' := by
  rw [funext h0, funext h1, funext fun k => funext (h2 k), funext fun k => funext (h3 k), funext h4, funext h5, h6]

variable (m : (ℓ : Loc nD τ sig) → Buf (Elt Ideal) ℓ) (d : Dev nD)

/-- The reference's scores of the arguments a device holds. -/
def scoreRef : Cert.ReferenceIdeal.S64x576.Idx → EReal := refScore (m (d, a0')) (m (d, a1')) (m (d, a2')) (m (d, a3')) (m (d, a4')) (m (d, a5'))

theorem main_arg2_eq : vals m d main_arg2 = m (d, a2') := V5_of_ne m d a2' (by decide) (by decide) (by decide) (by decide) (by decide)
theorem main_arg4_eq : vals m d main_arg4 = m (d, a4') := V5_of_ne m d a4' (by decide) (by decide) (by decide) (by decide) (by decide)

theorem dense_pos (b : Fin 64) (n : Fin 576) (k : Fin 768) (r : Fin 36864) (hr : r.val = b.val * 576 + n.val) :
    (S64x576x768.rowMajor (ix3 b n k)).val = (S36864x768.rowMajor (ix2 r k)).val := by
  refine (rowMajor_val3 _ 442368 768 (show (576 * 768 : ℕ) = 442368 by norm_num) rfl).trans (Eq.trans ?_ (rowMajor_val2 _ 768 rfl).symm)
  show b.val * 442368 + n.val * 768 + k.val = r.val * 768 + k.val
  omega

theorem dense_at (b : Fin 64) (n : Fin 576) (k : Fin 768) (r : Fin 36864) (hr : r.val = b.val * 576 + n.val) :
    (vals m d main_v0 : S36864x768.Idx → EReal) (ix2 r k) = (m (d, a0') : S64x576x768.Idx → EReal) (ix3 b n k) :=
  (congrFun (V5_v0 m d) _).trans (shapeCast_apply _ _ _ (ix3 (n0 := 64) (n1 := 576) (n2 := 768) b n k) (dense_pos b n k r hr))

theorem text_pos (b : Fin 64) (r : Fin 77) (k : Fin 768) (q : Fin 49152) (hq : q.val = b.val * 768 + k.val) :
    (S77x64x768.rowMajor (ix3 r b k)).val = (S77x49152.rowMajor (ix2 r q)).val := by
  refine (rowMajor_val3 _ 49152 768 (show (64 * 768 : ℕ) = 49152 by norm_num) rfl).trans (Eq.trans ?_ (rowMajor_val2 _ 49152 rfl).symm)
  show r.val * 49152 + b.val * 768 + k.val = r.val * 49152 + q.val
  omega

theorem textT_at (x : S64x77x768.Idx → EReal) (b : Fin 64) (r : Fin 77) (k : Fin 768) :
    transpose S77x64x768 [1, 0, 2] x transposes_S64x77x768_S77x64x768_1_0_2 (ix3 r b k) = x (ix3 b r k) :=
  transpose_apply _ _ _ _ (ix3 (n0 := 64) (n1 := 77) (n2 := 768) b r k) (fun a => match a with | 0 => rfl | 1 => rfl | 2 => rfl)

theorem text_at (b : Fin 64) (r : Fin 77) (k : Fin 768) (q : Fin 49152) (hq : q.val = b.val * 768 + k.val) :
    (vals m d main_v2 : S77x49152.Idx → EReal) (ix2 r q) = (m (d, a1') : S64x77x768.Idx → EReal) (ix3 b r k) :=
  (congrFun (V5_v2 m d) _).trans ((shapeCast_apply _ _ _ (ix3 (n0 := 77) (n1 := 64) (n2 := 768) r b k) (text_pos b r k q hq)).trans (textT_at _ b r k))

theorem bias1_pos (h : Fin 256) : (S256.rowMajor (ix1 h)).val = (S1x256.rowMajor (ix2 (0 : Fin 1) h)).val := by
  refine (Shape.rowMajor_val_one _).trans (Eq.trans ?_ (rowMajor_val2 (ix2 (n0 := 1) (n1 := 256) 0 h) 256 rfl).symm)
  show h.val = 0 * 256 + h.val
  omega

theorem bias1_at (h : Fin 256) : (vals m d main_v3 : S1x256.Idx → EReal) (ix2 (0 : Fin 1) h) = (m (d, a3') : S256.Idx → EReal) (ix1 h) :=
  (congrFun (V5_v3 m d) _).trans (shapeCast_apply _ _ _ (ix1 (n0 := 256) h) (bias1_pos h))

theorem bias2_pos : (S1.rowMajor (ix1 (0 : Fin 1))).val = (S1x1.rowMajor (ix2 (0 : Fin 1) (0 : Fin 1))).val :=
  (Shape.rowMajor_val_one _).trans (rowMajor_val2 (ix2 (n0 := 1) (n1 := 1) 0 0) 1 rfl).symm

theorem bias2_at : (vals m d main_v4 : S1x1.Idx → EReal) (ix2 (0 : Fin 1) (0 : Fin 1)) = (m (d, a5') : S1.Idx → EReal) (ix1 (0 : Fin 1)) :=
  (congrFun (V5_v4 m d) _).trans (shapeCast_apply _ _ _ (ix1 (n0 := 1) 0) bias2_pos)

/-- A sample's scores, at its row of its block. -/
theorem score_eq (b : Fin 64) (n : Fin 576) :
    scoreB (in0 (vals m d) (ptOf b)) (in1 (vals m d) (ptOf b)) (in2 (vals m d)) (in3 (vals m d)) (in4 (vals m d)) (in5 (vals m d)) (in6 (vals m d)) (ix2 (rowOf b) n)
      = scoreRef m d (ix2 b n) := by
  have hp : (ptOf b).val = b.val / 8 := rfl
  have hq : (rowOf b).val = b.val % 8 := rfl
  refine (scoreB_apply _ _ _ _ _ _ _ (rowOf b) n).trans (Eq.trans ?_ (refScore_apply _ _ _ _ _ _ b n).symm)
  refine scoreOf_congr (fun k => ?_) (fun k => congrArg mean77 (funext fun r => ?_)) (fun k h => ?_) (fun k h => ?_) (fun h => ?_) (fun h => ?_) ?_
  · exact (in0_apply _ _ _ _).trans (dense_at m d b n k _ (by show (ptOf b).val * 4608 + (576 * (rowOf b).val + n.val) = _; omega))
  · exact (in1_apply _ _ _ _).trans (text_at m d b r k _ (by show (ptOf b).val * 6144 + (768 * (rowOf b).val + k.val) = _; omega))
  · exact (in2_apply _ _ _).trans (congrFun (main_arg2_eq m d) _)
  · exact (in3_apply _ _ _).trans (congrFun (main_arg2_eq m d) _)
  · exact (in4_apply _ _ _).trans (bias1_at m d h)
  · exact (in5_apply _ _ _).trans (congrFun (main_arg4_eq m d) _)
  · exact (in6_apply _ _ _).trans (bias2_at m d)

theorem key_eq (b : Fin 64) : row (keyAt (vals m d) (ptOf b)) (rowOf b) = rk fun j : Fin 576 => scoreRef m d (ix2 b j) := by
  funext j
  refine (rankB_apply _ (rowOf b) j).trans (cnt_congr fun i => ?_)
  rw [score_eq, score_eq]
  exact Ideal.cmp_olt_eq_one _ _

/-- The positions the pipeline selects are the reference's. -/
theorem arr7_eq (b : Fin 64) (k : Fin 96) : arr7 (vals m d) (ix3 b (0 : Fin 1) k) = refTop (scoreRef m d) (ix2 b k) := by
  obtain ⟨f, hf, hr, hk⟩ := refTop_spec (scoreRef m d) b
  refine BitVec.eq_of_toNat_eq (Eq.trans ?_ (hk k).symm)
  have e := key_eq m d b
  exact lidxB_eq (keyAt (vals m d) (ptOf b)) (rowOf b) (fun j => by rw [e]; exact rk_bound _ j) f hf (fun j => by rw [e]; exact hr j) k

theorem refTop_lt (x : Cert.ReferenceIdeal.S64x576.Idx → EReal) (i : S64x96.Idx) : (refTop x i).toNat < 576 := by
  obtain ⟨f, _, _, hk⟩ := refTop_spec x (i 0)
  have e : (ix2 (i 0) (i 1) : S64x96.Idx) = i := funext fun a => match a with | ⟨0, _⟩ => rfl | ⟨1, _⟩ => rfl
  have h := hk (i 1)
  rw [e] at h
  rw [h]; exact Fin.isLt _

/-- The second result. -/
theorem idx_eq : V10 m d v9' = refTop (scoreRef m d) := by
  refine (V10_v9 m d).trans (funext fun i => ?_)
  refine (shapeCast_apply _ _ i (ix3 (n0 := 64) (n1 := 1) (n2 := 96) (i 0) 0 (i 1)) (((rowMajor_val3 _ 96 96 rfl rfl).trans ?_).trans (rowMajor_val2 _ 96 rfl).symm)).trans ?_
  · show (i 0).val * 96 + 0 * 96 + (i 1).val = (i 0).val * 96 + (i 1).val; omega
  · exact (arr7_eq m d (i 0) (i 1)).trans (congrArg (refTop (scoreRef m d)) (funext fun a => match a with | ⟨0, _⟩ => rfl | ⟨1, _⟩ => rfl))

/-- The first result. -/
theorem rows_link : V10 m d v8' = Rows.refRows (m (d, a0'))
    (broadcastInDim Cert.ReferenceIdeal.S64x96x1 ![0, 1] Cert.ReferenceIdeal.Gen.bcast_S64x96_S64x96x1_0_1 (refTop (scoreRef m d))) (m (d, a6')) := by
  rw [V10_v8, tabOf_eq, regOf_eq, numOf_eq]
  exact Rows.rows_eq _ _ (refTop_lt _) _ _ fun b p => (arr8_toNat (vals m d) (ix3 b (0 : Fin 1) p)).trans
    (congrArg (fun v : BitVec 32 => v.toNat + b.val * 576) (arr7_eq m d b p))

/-! ## The reference's run -/

/-- What the reference leaves, in the terms of its parts. -/
theorem ref_results (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v27 m' c = Rows.refRows (m' ((c.tc : Thread Cert.ReferenceIdeal.nD Cert.ReferenceIdeal.τ).loc Cert.ReferenceIdeal.main_arg0))
      (broadcastInDim Cert.ReferenceIdeal.S64x96x1 ![0, 1] Cert.ReferenceIdeal.Gen.bcast_S64x96_S64x96x1_0_1
        (refTop (refScore (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))))
      (m' ((c.tc : Thread Cert.ReferenceIdeal.nD Cert.ReferenceIdeal.τ).loc Cert.ReferenceIdeal.main_arg6)) := rfl

end Cert.Proof.Gather

end
-- ==== Proof.Same.lean ====
/-
  The program at machine words and the program at the ideal values have the same bodies: their tables are equal, entry by
  entry.
-/
module

public import proofs.«01_k».proof.Proof.Gen.Kernel
public import proofs.«01_k».proof.Proof.Gen.KernelIdeal

@[expose] public section

namespace Cert.Proof.Gather

open Idealize.ShloMosaic

variable {F : FTy → Type} [FloatOps F]

theorem bodies_eq : Cert.Kernel.defs₀ (F := F) = Cert.KernelIdeal.defs₀ (F := F) := by
  funext p l a
  match p, l, a with
  | .tc, ⟨0, _⟩, (_, _) => rfl
  | .tc, ⟨1, _⟩, _ => rfl
  | .scScalar _, ⟨0, _⟩, _ => rfl
  | .scScalar _, ⟨1, _⟩, _ => rfl
  | .scVector _ _, ⟨0, _⟩, _ => rfl
  | .scVector _ _, ⟨1, _⟩, _ => rfl

theorem table_eq : Cert.Kernel.defs (F := F) = Cert.KernelIdeal.defs (F := F) :=
  congrArg (fun D => (Cert.KernelIdeal.sc (F := F)).defs (Pipeline.defs (Cert.KernelIdeal.pcfgs (F := F)) D)) bodies_eq

end Cert.Proof.Gather

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Link
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-- `Cert.quiescent_Kernel`: the run over any float values, read at machine words. -/
theorem frame_kernel : Cert.quiescent_Kernel := by
  intro m ρ _
  rw [Gather.table_eq]
  exact (θ_run Cert.KernelIdeal.defs _ _).mono (fun _ h => ⟨fun c => (h.1 c).2.2, h.2⟩) (Gather.run_results (F := Bits) m ρ)

/-- `Cert.quiescent_KernelIdeal`: the same run at the ideal values. -/
theorem frame_ideal : Cert.quiescent_KernelIdeal := fun m ρ _ =>
  (θ_run Cert.KernelIdeal.defs _ _).mono (fun _ h => ⟨fun c => (h.1 c).2.2, h.2⟩) (Gather.run_results (F := Ideal) m ρ)

/-- `Cert.quiescent_ReferenceIdeal`: the reference's run; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- `Cert.algebraic_KernelIdeal_ReferenceIdeal`: both runs end with the same rows and the same selected positions. -/
theorem algebraic : Cert.algebraic_KernelIdeal_ReferenceIdeal := by
  intro m ρ m' ρ' _ hagree
  refine ⟨fun c => Gather.V10 m c Gather.v8', fun c => Gather.V10 m c Gather.v9',
    (θ_run Cert.KernelIdeal.defs _ _).mono (fun _ h c => h.1 c) (Gather.run_results (F := Ideal) m ρ), ?_⟩
  refine (θ_run Cert.ReferenceIdeal.defs _ _).mono (fun _ h c => ⟨(h c).1.trans ?_, (h c).2.1.trans ?_, (h c).2.2⟩) (Cert.ReferenceIdeal.Value.run (F := Ideal) m' ρ')
  · obtain ⟨e0, e1, e2, e3, e4, e5, e6⟩ := hagree c
    rw [Gather.ref_results, e0, e1, e2, e3, e4, e5, e6]
    exact (Gather.rows_link m c).symm
  · obtain ⟨e0, e1, e2, e3, e4, e5, e6⟩ := hagree c
    rw [e0, e1, e2, e3, e4, e5]
    exact (Gather.idx_eq m c).symm

theorem claim : Cert.Claim := ⟨Cert.Kernel.Gen.facts, Cert.KernelIdeal.Gen.facts, Cert.ReferenceIdeal.Gen.facts,
  frame_kernel, frame_ideal, frame_reference, trivial, algebraic⟩

end Cert.Proof

end
